-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_proj_finite [hPre_proj_finite : Cert.Pre_proj_finite.Facts] (m : (ℓ : Loc Cert.KernelIdeal.nD Cert.KernelIdeal.τ Cert.KernelIdeal.sig) → Buf (Elt Ideal) ℓ) : Prop :=
  ∀ c : Dev Cert.KernelIdeal.nD,
    (Cert.Pre_proj_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_proj_finite [hPre_proj_finite : Cert.Pre_proj_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_proj_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_ssd_finite [hPre_ssd_finite : Cert.Pre_ssd_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_ssd_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_ssd_finite [hPre_ssd_finite : Cert.Pre_ssd_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_ssd_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_proj_finite [hKernelIdeal : Cert.KernelIdeal.Facts] [hPre_proj_finite : Cert.Pre_proj_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_proj_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_proj_finite [hReferenceIdeal : Cert.ReferenceIdeal.Facts] [hPre_proj_finite : Cert.Pre_proj_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_proj_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_ssd_finite [hKernel5Ideal : Cert.Kernel5Ideal.Facts] [hPre_ssd_finite : Cert.Pre_ssd_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_ssd_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_ssd_finite [hReference5Ideal : Cert.Reference5Ideal.Facts] [hPre_ssd_finite : Cert.Pre_ssd_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_ssd_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_proj_finite [hKernelIdeal : Cert.KernelIdeal.Facts] [hReferenceIdeal : Cert.ReferenceIdeal.Facts] [hPre_proj_finite : Cert.Pre_proj_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_proj_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_ssd_finite [hKernel5Ideal : Cert.Kernel5Ideal.Facts] [hReference5Ideal : Cert.Reference5Ideal.Facts] [hPre_ssd_finite : Cert.Pre_ssd_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_ssd_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v45) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_proj_finite : Cert.Pre_proj_finite.Facts) (hPre_ssd_finite : Cert.Pre_ssd_finite.Facts),
    quiescent_Kernel (hKernel := hKernel)
    ∧ quiescent_KernelIdeal (hKernelIdeal := hKernelIdeal)
    ∧ quiescent_KernelIdeal_pre_proj_finite (hKernelIdeal := hKernelIdeal) (hPre_proj_finite := hPre_proj_finite)
    ∧ quiescent_ReferenceIdeal (hReferenceIdeal := hReferenceIdeal)
    ∧ quiescent_ReferenceIdeal_pre_proj_finite (hReferenceIdeal := hReferenceIdeal) (hPre_proj_finite := hPre_proj_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_ssd_finite (hKernel5Ideal := hKernel5Ideal) (hPre_ssd_finite := hPre_ssd_finite)
    ∧ quiescent_Reference5Ideal (hReference5Ideal := hReference5Ideal)
    ∧ quiescent_Reference5Ideal_pre_ssd_finite (hReference5Ideal := hReference5Ideal) (hPre_ssd_finite := hPre_ssd_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_proj_finite (hKernelIdeal := hKernelIdeal) (hReferenceIdeal := hReferenceIdeal) (hPre_proj_finite := hPre_proj_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_ssd_finite (hKernel5Ideal := hKernel5Ideal) (hReference5Ideal := hReference5Ideal) (hPre_ssd_finite := hPre_ssd_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_proj_finite.lean ====
abbrev S8192x12288 : Shape := ⟨2, ![8192, 12288]⟩
abbrev S_ : Shape := ⟨0, ![]⟩

class Facts : Prop where
  bitsLt_bf16_f32 : FTy.bits .bf16 < FTy.bits .f32
  bcast_S_S8192x12288 : S_.BroadcastsInDim S8192x12288 (![] : Fin 0 → Fin S8192x12288.rank)

variable [Facts]

def fn {F : FTy → Type} [FloatOps F] (main_arg0 : FVec F S8192x12288 .bf16) : IVec S8192x12288 1 :=
  let main_v0 : FVec F S8192x12288 .f32 := (extf .f32 · bitsLt_bf16_f32) main_arg0
  let main_v1 : FVec F S8192x12288 .f32 := Host.absf main_v0
  let main_cst : FVec F S_ .f32 := constant S_ .f32 0x7F800000#32
  let main_v2 : FVec F S8192x12288 .f32 := broadcastInDim S8192x12288 ![] bcast_S_S8192x12288 main_cst
  let main_v3 : IVec S8192x12288 1 := cmpf .olt main_v1 main_v2
  main_v3
-- ==== Pre_ssd_finite.lean ====
abbrev S8192x2048 : Shape := ⟨2, ![8192, 2048]⟩
abbrev S1x2048x10304 : Shape := ⟨3, ![1, 2048, 10304]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048x10304 : S_.BroadcastsInDim S1x2048x10304 (![] : Fin 0 → Fin S1x2048x10304.rank)
  reducesTo_S1x2048x10304_S_d0_1_2 : S1x2048x10304.ReducesTo [0, 1, 2] S_

variable [Facts]

def fn {F : FTy → Type} [FloatOps F] (main_arg0 : FVec F S8192x2048 .f32) (main_arg1 : FVec F S1x2048x10304 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x2048x10304 .f32 := Host.absf main_arg1
  let main_cst_0 : FVec F S_ .f32 := constant S_ .f32 0x7F800000#32
  let main_v5 : FVec F S1x2048x10304 .f32 := broadcastInDim S1x2048x10304 ![] bcast_S_S1x2048x10304 main_cst_0
  let main_v6 : IVec S1x2048x10304 1 := cmpf .olt main_v4 main_v5
  let main_c_1 : IVec S_ 1 := constantI S_ 1 1#1
  let main_v7 : IVec S_ 1 := (fun x v => Host.reduce IntOp.andi x v reducesTo_S1x2048x10304_S_d0_1_2 h_S_) main_v6 main_c_1
  let main_v8 : IVec S_ 1 := andi main_v3 main_v7
  main_v8
-- ==== Kernel.lean ====
abbrev S8192x12288 : Shape := ⟨2, ![8192, 12288]⟩
abbrev S_ : Shape := ⟨0, ![]⟩
abbrev S127 : Shape := ⟨1, ![127]⟩
abbrev S1 : Shape := ⟨1, ![1]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S8 : Shape := ⟨1, ![8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S8x256x128 : Shape := ⟨3, ![8, 256, 128]⟩
abbrev S8192x4096 : Shape := ⟨2, ![8192, 4096]⟩
abbrev S256x2048 : Shape := ⟨2, ![256, 2048]⟩
abbrev S256x4096 : Shape := ⟨2, ![256, 4096]⟩
abbrev S256x128 : Shape := ⟨2, ![256, 128]⟩
abbrev S8x256x512 : Shape := ⟨3, ![8, 256, 512]⟩
abbrev S256x512 : Shape := ⟨2, ![256, 512]⟩
abbrev S1x256x512 : Shape := ⟨3, ![1, 256, 512]⟩
abbrev S1x256x128 : Shape := ⟨3, ![1, 256, 128]⟩

abbrev nBuf : Space → Nat
  | .hbm => 98
  | .vmem => 18
  | .smem => 1
  | _ => 0

abbrev bufTy : (tb : Table) → Fin (tcTables nBuf tb) → BufTy
  | .hbm, ⟨0, _⟩ => ⟨S8192x12288, .bf16⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S127, .f32⟩
  | .hbm, ⟨9, _⟩ => ⟨S_, .f32⟩
  | .hbm, ⟨10, _⟩ => ⟨S127, .f32⟩
  | .hbm, ⟨11, _⟩ => ⟨S127, .f32⟩
  | .hbm, ⟨12, _⟩ => ⟨S1, .f32⟩
  | .hbm, ⟨13, _⟩ => ⟨S_, .f32⟩
  | .hbm, ⟨14, _⟩ => ⟨S127, .f32⟩
  | .hbm, ⟨15, _⟩ => ⟨S127, .f32⟩
  | .hbm, ⟨16, _⟩ => ⟨S127, .f32⟩
  | .hbm, ⟨17, _⟩ => ⟨S127, .f32⟩
  | .hbm, ⟨18, _⟩ => ⟨S1, .f32⟩
  | .hbm, ⟨19, _⟩ => ⟨S127, .f32⟩
  | .hbm, ⟨20, _⟩ => ⟨S127, .f32⟩
  | .hbm, ⟨21, _⟩ => ⟨S127, .f32⟩
  | .hbm, ⟨22, _⟩ => ⟨S1, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S4096, .f32⟩
  | .hbm, ⟨31, _⟩ => ⟨S4096x1, .f32⟩
  | .hbm, ⟨32, _⟩ => ⟨S1x128, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S8, .f32⟩
  | .hbm, ⟨48, _⟩ => ⟨S256, .f32⟩
  | .hbm, ⟨49, _⟩ => ⟨S256x1, .f32⟩
  | .hbm, ⟨50, _⟩ => ⟨S1x256, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S_, .f32⟩
  | .hbm, ⟨55, _⟩ => ⟨S256x256, .f32⟩
  | .hbm, ⟨56, _⟩ => ⟨S256x256, .i1⟩
  | .hbm, ⟨57, _⟩ => ⟨S_, .f32⟩
  | .hbm, ⟨58, _⟩ => ⟨S256x256, .f32⟩
  | .hbm, ⟨59, _⟩ => ⟨S256x256, .f32⟩
  | .hbm, ⟨60, _⟩ => ⟨S1x256x256, .f32⟩
  | .hbm, ⟨61, _⟩ => ⟨S8x1x1, .f32⟩
  | .hbm, ⟨62, _⟩ => ⟨S8x256x256, .f32⟩
  | .hbm, ⟨63, _⟩ => ⟨S8x256x256, .f32⟩
  | .hbm, ⟨64, _⟩ => ⟨S8x256x256, .f32⟩
  | .hbm, ⟨65, _⟩ => ⟨S8x256x256, .f32⟩
  | .hbm, ⟨66, _⟩ => ⟨S_, .f32⟩
  | .hbm, ⟨67, _⟩ => ⟨S_, .f32⟩
  | .hbm, ⟨68, _⟩ => ⟨S8x256x256, .i1⟩
  | .hbm, ⟨69, _⟩ => ⟨S8x256x256, .f32⟩
  | .hbm, ⟨70, _⟩ => ⟨S8x256x256, .f32⟩
  | .hbm, ⟨71, _⟩ => ⟨S1x256, .f32⟩
  | .hbm, ⟨72, _⟩ => ⟨S_, .f32⟩
  | .hbm, ⟨73, _⟩ => ⟨S1x256, .f32⟩
  | .hbm, ⟨74, _⟩ => ⟨S1x256, .f32⟩
  | .hbm, ⟨75, _⟩ => ⟨S8x1, .f32⟩
  | .hbm, ⟨76, _⟩ => ⟨S8x256, .f32⟩
  | .hbm, ⟨77, _⟩ => ⟨S8x256, .f32⟩
  | .hbm, ⟨78, _⟩ => ⟨S8x256, .f32⟩
  | .hbm, ⟨79, _⟩ => ⟨S8x256, .f32⟩
  | .hbm, ⟨80, _⟩ => ⟨S1x256, .f32⟩
  | .hbm, ⟨81, _⟩ => ⟨S_, .f32⟩
  | .hbm, ⟨82, _⟩ => ⟨S1x256, .f32⟩
  | .hbm, ⟨83, _⟩ => ⟨S1x256, .f32⟩
  | .hbm, ⟨84, _⟩ => ⟨S8x1, .f32⟩
  | .hbm, ⟨85, _⟩ => ⟨S8x256, .f32⟩
  | .hbm, ⟨86, _⟩ => ⟨S8x256, .f32⟩
  | .hbm, ⟨87, _⟩ => ⟨S8x256, .f32⟩
  | .hbm, ⟨88, _⟩ => ⟨S8x256, .f32⟩
  | .hbm, ⟨89, _⟩ => ⟨S8x256x1, .f32⟩
  | .hbm, ⟨90, _⟩ => ⟨S8x256x128, .f32⟩
  | .hbm, ⟨91, _⟩ => ⟨S8x256x1, .f32⟩
  | .hbm, ⟨92, _⟩ => ⟨S8x256x128, .f32⟩
  | .hbm, ⟨93, _⟩ => ⟨S_, .f32⟩
  | .hbm, ⟨94, _⟩ => ⟨S8, .f32⟩
  | .hbm, ⟨95, _⟩ => ⟨S8, .f32⟩
  | .hbm, ⟨96, _⟩ => ⟨S8, .f32⟩
  | .hbm, ⟨97, _⟩ => ⟨S8192x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S8x256x256, .f32⟩
  | .local _ .vmem, ⟨13, _⟩ => ⟨S8x256x128, .f32⟩
  | .local _ .vmem, ⟨14, _⟩ => ⟨S8x256x128, .f32⟩
  | .local _ .vmem, ⟨15, _⟩ => ⟨S256x4096, .bf16⟩
  | .local _ .vmem, ⟨16, _⟩ => ⟨S256x4096, .bf16⟩
  | .local _ .vmem, ⟨17, _⟩ => ⟨S8x256x512, .f32⟩
  | .local _ .smem, ⟨0, _⟩ => ⟨S8, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_cst_1 : Ref sig .tc := ⟨.hbm, 24, rfl⟩
abbrev main_v1 : Ref sig .tc := ⟨.hbm, 25, rfl⟩
abbrev main_v2 : Ref sig .tc := ⟨.hbm, 26, rfl⟩
abbrev main_cst_2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_5 : Ref sig .tc := ⟨.hbm, 54, rfl⟩
abbrev main_v27 : Ref sig .tc := ⟨.hbm, 55, rfl⟩
abbrev main_v28 : Ref sig .tc := ⟨.hbm, 56, rfl⟩
abbrev main_cst_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v37 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_9 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_10 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x12288 : Shape := ⟨2, ![8192, 12288]⟩
abbrev S2x4096x12288 : Shape := ⟨3, ![2, 4096, 12288]⟩
abbrev S2x4096x2048 : Shape := ⟨3, ![2, 4096, 2048]⟩
abbrev S2x4096x4096 : Shape := ⟨3, ![2, 4096, 4096]⟩
abbrev S2x4096x8x256 : Shape := ⟨4, ![2, 4096, 8, 256]⟩
abbrev S_ : Shape := ⟨0, ![]⟩
abbrev S2x4096x8x512 : Shape := ⟨4, ![2, 4096, 8, 512]⟩
abbrev S127 : Shape := ⟨1, ![127]⟩
abbrev S1 : Shape := ⟨1, ![1]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S2x4096x8x128 : Shape := ⟨4, ![2, 4096, 8, 128]⟩
abbrev S1x4096x1x128 : Shape := ⟨4, ![1, 4096, 1, 128]⟩
abbrev S8 : Shape := ⟨1, ![8]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S2x32x128x8x256 : Shape := ⟨5, ![2, 32, 128, 8, 256]⟩
abbrev S32x2x8x128x256 : Shape := ⟨5, ![32, 2, 8, 128, 256]⟩
abbrev S2x32x128x8x512 : Shape := ⟨5, ![2, 32, 128, 8, 512]⟩
abbrev S32x2x8x128x512 : Shape := ⟨5, ![32, 2, 8, 128, 512]⟩
abbrev S2x8x256x512 : Shape := ⟨4, ![2, 8, 256, 512]⟩
abbrev S1x2x8x128x256 : Shape := ⟨5, ![1, 2, 8, 128, 256]⟩
abbrev S2x8x128x256 : Shape := ⟨4, ![2, 8, 128, 256]⟩
abbrev S1x2x8x128x512 : Shape := ⟨5, ![1, 2, 8, 128, 512]⟩
abbrev S2x8x128x512 : Shape := ⟨4, ![2, 8, 128, 512]⟩
abbrev S2x8x128x128 : Shape := ⟨4, ![2, 8, 128, 128]⟩
abbrev S1x8x128x128 : Shape := ⟨4, ![1, 8, 128, 128]⟩
abbrev S8x128x1 : Shape := ⟨3, ![8, 128, 1]⟩
abbrev S1x8x128x1 : Shape := ⟨4, ![1, 8, 128, 1]⟩
abbrev S1x8x1x1 : Shape := ⟨4, ![1, 8, 1, 1]⟩
abbrev S2x4096x8 : Shape := ⟨3, ![2, 4096, 8]⟩
abbrev S2x4096x8x1 : Shape := ⟨4, ![2, 4096, 8, 1]⟩
abbrev S8192x4096 : Shape := ⟨2, ![8192, 4096]⟩

abbrev nBuf : Space → Nat
  | .hbm => 249
  | .vmem => 0
  | .smem => 0
  | _ => 0

abbrev hbmTy0_0 (i : Nat) : BufTy := match i % 128 with
  | 0 => ⟨S8192x12288, .bf16⟩
  | 1 => ⟨S8192x12288, .f32⟩
  | 2 => ⟨S2x4096x12288, .f32⟩
  | 3 => ⟨S2x4096x2048, .f32⟩
  | 4 => ⟨S2x4096x2048, .f32⟩
  | 5 => ⟨S2x4096x4096, .f32⟩
  | 6 => ⟨S2x4096x4096, .f32⟩
  | 7 => ⟨S2x4096x8x256, .f32⟩
  | 8 => ⟨S2x4096x8x256, .f32⟩
  | 9 => ⟨S_, .f32⟩
  | 10 => ⟨S2x4096x8x256, .f32⟩
  | 11 => ⟨S2x4096x8x256, .f32⟩
  | 12 => ⟨S2x4096x8x512, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S127, .f32⟩
  | 21 => ⟨S_, .f32⟩
  | 22 => ⟨S127, .f32⟩
  | 23 => ⟨S127, .f32⟩
  | 24 => ⟨S1, .f32⟩
  | 25 => ⟨S_, .f32⟩
  | 26 => ⟨S127, .f32⟩
  | 27 => ⟨S127, .f32⟩
  | 28 => ⟨S127, .f32⟩
  | 29 => ⟨S127, .f32⟩
  | 30 => ⟨S1, .f32⟩
  | 31 => ⟨S127, .f32⟩
  | 32 => ⟨S127, .f32⟩
  | 33 => ⟨S127, .f32⟩
  | 34 => ⟨S1, .f32⟩
  | 35 => ⟨S128, .f32⟩
  | 36 => ⟨S_, .f32⟩
  | 37 => ⟨S128, .f32⟩
  | 38 => ⟨S128, .f32⟩
  | 39 => ⟨S_, .f32⟩
  | 40 => ⟨S128, .f32⟩
  | 41 => ⟨S128, .f32⟩
  | 42 => ⟨S4096, .f32⟩
  | 43 => ⟨S4096x1, .f32⟩
  | 44 => ⟨S1x128, .f32⟩
  | 45 => ⟨S4096x128, .f32⟩
  | 46 => ⟨S4096x128, .f32⟩
  | 47 => ⟨S4096x128, .f32⟩
  | 48 => ⟨S4096x128, .f32⟩
  | 49 => ⟨S4096x128, .f32⟩
  | 50 => ⟨S2x4096x8x128, .f32⟩
  | 51 => ⟨S2x4096x8x128, .f32⟩
  | 52 => ⟨S1x4096x1x128, .f32⟩
  | 53 => ⟨S1x4096x1x128, .f32⟩
  | 54 => ⟨S2x4096x8x128, .f32⟩
  | 55 => ⟨S2x4096x8x128, .f32⟩
  | 56 => ⟨S2x4096x8x128, .f32⟩
  | 57 => ⟨S2x4096x8x128, .f32⟩
  | 58 => ⟨S2x4096x8x128, .f32⟩
  | 59 => ⟨S2x4096x8x128, .f32⟩
  | 60 => ⟨S2x4096x8x128, .f32⟩
  | 61 => ⟨S2x4096x8x128, .f32⟩
  | 62 => ⟨S2x4096x8x128, .f32⟩
  | 63 => ⟨S2x4096x8x128, .f32⟩
  | 64 => ⟨S2x4096x8x256, .f32⟩
  | 65 => ⟨S2x4096x8x128, .f32⟩
  | 66 => ⟨S2x4096x8x128, .f32⟩
  | 67 => ⟨S1x4096x1x128, .f32⟩
  | 68 => ⟨S1x4096x1x128, .f32⟩
  | 69 => ⟨S2x4096x8x128, .f32⟩
  | 70 => ⟨S2x4096x8x128, .f32⟩
  | 71 => ⟨S2x4096x8x128, .f32⟩
  | 72 => ⟨S2x4096x8x128, .f32⟩
  | 73 => ⟨S2x4096x8x128, .f32⟩
  | 74 => ⟨S2x4096x8x128, .f32⟩
  | 75 => ⟨S2x4096x8x128, .f32⟩
  | 76 => ⟨S2x4096x8x128, .f32⟩
  | 77 => ⟨S2x4096x8x128, .f32⟩
  | 78 => ⟨S2x4096x8x128, .f32⟩
  | 79 => ⟨S2x4096x8x256, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S8, .f32⟩
  | 89 => ⟨S8, .f32⟩
  | 90 => ⟨S128, .f32⟩
  | 91 => ⟨S128x1, .f32⟩
  | 92 => ⟨S1x128, .f32⟩
  | 93 => ⟨S128x128, .f32⟩
  | 94 => ⟨S128x128, .f32⟩
  | 95 => ⟨S128x128, .f32⟩
  | 96 => ⟨S_, .f32⟩
  | 97 => ⟨S128x128, .f32⟩
  | 98 => ⟨S128x128, .i1⟩
  | 99 => ⟨S_, .f32⟩
  | 100 => ⟨S128x128, .f32⟩
  | 101 => ⟨S128x128, .f32⟩
  | 102 => ⟨S1x128x128, .f32⟩
  | 103 => ⟨S8x1x1, .f32⟩
  | 104 => ⟨S8x128x128, .f32⟩
  | 105 => ⟨S8x128x128, .f32⟩
  | 106 => ⟨S8x128x128, .f32⟩
  | 107 => ⟨S8x128x128, .f32⟩
  | 108 => ⟨S_, .f32⟩
  | 109 => ⟨S_, .f32⟩
  | 110 => ⟨S8x128x128, .i1⟩
  | 111 => ⟨S8x128x128, .f32⟩
  | 112 => ⟨S8x128x128, .f32⟩
  | 113 => ⟨S1x128, .f32⟩
  | 114 => ⟨S_, .f32⟩
  | 115 => ⟨S1x128, .f32⟩
  | 116 => ⟨S1x128, .f32⟩
  | 117 => ⟨S8x1, .f32⟩
  | 118 => ⟨S8x128, .f32⟩
  | 119 => ⟨S8x128, .f32⟩
  | 120 => ⟨S8x128, .f32⟩
  | 121 => ⟨S8x128, .f32⟩
  | 122 => ⟨S1x128, .f32⟩
  | 123 => ⟨S_, .f32⟩
  | 124 => ⟨S1x128, .f32⟩
  | 125 => ⟨S1x128, .f32⟩
  | 126 => ⟨S8x1, .f32⟩
  | 127 => ⟨S8x128, .f32⟩
  | _ => ⟨S8192x12288, .bf16⟩

abbrev hbmTy0_1 (i : Nat) : BufTy := match i % 128 with
  | 0 => ⟨S8x128, .f32⟩
  | 1 => ⟨S8x128, .f32⟩
  | 2 => ⟨S8x128, .f32⟩
  | 3 => ⟨S_, .f32⟩
  | 4 => ⟨S8, .f32⟩
  | 5 => ⟨S8, .f32⟩
  | 6 => ⟨S8, .f32⟩
  | 7 => ⟨S2x32x128x8x256, .f32⟩
  | 8 => ⟨S32x2x8x128x256, .f32⟩
  | 9 => ⟨S2x32x128x8x256, .f32⟩
  | 10 => ⟨S32x2x8x128x256, .f32⟩
  | 11 => ⟨S2x32x128x8x512, .f32⟩
  | 12 => ⟨S32x2x8x128x512, .f32⟩
  | 13 => ⟨S_, .f32⟩
  | 14 => ⟨S2x8x256x512, .f32⟩
  | 15 => ⟨S_, .f32⟩
  | 16 => ⟨S32x2x8x128x512, .f32⟩
  | 17 => ⟨S_, .i32⟩
  | 18 => ⟨S32x2x8x128x256, .f32⟩
  | 19 => ⟨S32x2x8x128x256, .f32⟩
  | 20 => ⟨S32x2x8x128x512, .f32⟩
  | 21 => ⟨S8x128x128, .f32⟩
  | 22 => ⟨S8x128, .f32⟩
  | 23 => ⟨S8, .f32⟩
  | 24 => ⟨S8x128, .f32⟩
  | 25 => ⟨S_, .i32⟩
  | 26 => ⟨S2x8x256x512, .f32⟩
  | 27 => ⟨S32x2x8x128x512, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S1x2x8x128x256, .f32⟩
  | 35 => ⟨S2x8x128x256, .f32⟩
  | 36 => ⟨S_, .i32⟩
  | 37 => ⟨S_, .i32⟩
  | 38 => ⟨S_, .i32⟩
  | 39 => ⟨S_, .i32⟩
  | 40 => ⟨S1x2x8x128x256, .f32⟩
  | 41 => ⟨S2x8x128x256, .f32⟩
  | 42 => ⟨S_, .i32⟩
  | 43 => ⟨S_, .i32⟩
  | 44 => ⟨S_, .i32⟩
  | 45 => ⟨S_, .i32⟩
  | 46 => ⟨S1x2x8x128x512, .f32⟩
  | 47 => ⟨S2x8x128x512, .f32⟩
  | 48 => ⟨S2x8x128x128, .f32⟩
  | 49 => ⟨S1x8x128x128, .f32⟩
  | 50 => ⟨S2x8x128x128, .f32⟩
  | 51 => ⟨S2x8x128x128, .f32⟩
  | 52 => ⟨S2x8x128x512, .f32⟩
  | 53 => ⟨S2x8x128x512, .f32⟩
  | 54 => ⟨S8x128x1, .f32⟩
  | 55 => ⟨S1x8x128x1, .f32⟩
  | 56 => ⟨S2x8x128x512, .f32⟩
  | 57 => ⟨S2x8x128x512, .f32⟩
  | 58 => ⟨S8x1x1, .f32⟩
  | 59 => ⟨S1x8x1x1, .f32⟩
  | 60 => ⟨S2x8x256x512, .f32⟩
  | 61 => ⟨S2x8x256x512, .f32⟩
  | 62 => ⟨S8x128x1, .f32⟩
  | 63 => ⟨S1x8x128x1, .f32⟩
  | 64 => ⟨S2x8x128x256, .f32⟩
  | 65 => ⟨S2x8x128x256, .f32⟩
  | 66 => ⟨S2x8x256x512, .f32⟩
  | 67 => ⟨S2x8x256x512, .f32⟩
  | 68 => ⟨S2x8x128x512, .f32⟩
  | 69 => ⟨S1x2x8x128x512, .f32⟩
  | 70 => ⟨S_, .i32⟩
  | 71 => ⟨S_, .i32⟩
  | 72 => ⟨S_, .i32⟩
  | 73 => ⟨S_, .i32⟩
  | 74 => ⟨S32x2x8x128x512, .f32⟩
  | 75 => ⟨S_, .i32⟩
  | 76 => ⟨S_, .i32⟩
  | 77 => ⟨S2x32x128x8x512, .f32⟩
  | 78 => ⟨S2x4096x8x512, .f32⟩
  | 79 => ⟨S_, .f32⟩
  | 80 => ⟨S2x4096x8, .f32⟩
  | 81 => ⟨S2x4096x8x1, .f32⟩
  | 82 => ⟨S_, .f32⟩
  | 83 => ⟨S2x4096x8x1, .f32⟩
  | 84 => ⟨S2x4096x8x1, .f32⟩
  | 85 => ⟨S2x4096x8x512, .f32⟩
  | 86 => ⟨S2x4096x8x512, .f32⟩
  | 87 => ⟨S2x4096x8x512, .f32⟩
  | 88 => ⟨S_, .f32⟩
  | 89 => ⟨S2x4096x8, .f32⟩
  | 90 => ⟨S2x4096x8x1, .f32⟩
  | 91 => ⟨S_, .f32⟩
  | 92 => ⟨S2x4096x8x1, .f32⟩
  | 93 => ⟨S2x4096x8x1, .f32⟩
  | 94 => ⟨S2x4096x8x512, .f32⟩
  | 95 => ⟨S2x4096x8x512, .f32⟩
  | 96 => ⟨S_, .f32⟩
  | 97 => ⟨S2x4096x8x1, .f32⟩
  | 98 => ⟨S2x4096x8x1, .f32⟩
  | 99 => ⟨S2x4096x8x1, .f32⟩
  | 100 => ⟨S2x4096x8x512, .f32⟩
  | 101 => ⟨S2x4096x8x512, .f32⟩
  | 102 => ⟨S2x4096x4096, .f32⟩
  | 103 => ⟨S8192x12288, .f32⟩
  | 104 => ⟨S2x4096x12288, .f32⟩
  | 105 => ⟨S2x4096x2048, .f32⟩
  | 106 => ⟨S2x4096x2048, .f32⟩
  | 107 => ⟨S2x4096x4096, .f32⟩
  | 108 => ⟨S2x4096x4096, .f32⟩
  | 109 => ⟨S2x4096x4096, .f32⟩
  | 110 => ⟨S2x4096x4096, .f32⟩
  | 111 => ⟨S_, .f32⟩
  | 112 => ⟨S2x4096x4096, .f32⟩
  | 113 => ⟨S2x4096x4096, .f32⟩
  | 114 => ⟨S_, .f32⟩
  | 115 => ⟨S2x4096x4096, .f32⟩
  | 116 => ⟨S2x4096x4096, .f32⟩
  | 117 => ⟨S2x4096x4096, .f32⟩
  | 118 => ⟨S2x4096x4096, .f32⟩
  | 119 => ⟨S8192x4096, .f32⟩
  | 120 => ⟨S8192x4096, .bf16⟩
  | _ => ⟨S8192x12288, .bf16⟩

abbrev hbmTy (i : Nat) : BufTy := match i / 128 with
  | 0 => hbmTy0_0 i
  | 1 => hbmTy0_1 i
  | _ => ⟨S8192x12288, .bf16⟩

abbrev bufTy : (tb : Table) → Fin (tcTables nBuf tb) → BufTy
  | .hbm, ⟨i, _⟩ => hbmTy i
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v11 : Ref sig .tc := ⟨.hbm, 35, rfl⟩
abbrev main_cst_2 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_4 : Ref sig .tc := ⟨.hbm, 81, rfl⟩
abbrev main_v55 : Ref sig .tc := ⟨.hbm, 82, rfl⟩
abbrev main_v56 : Ref sig .tc := ⟨.hbm, 83, rfl⟩
abbrev main_cst_5 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_cst_7 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_8 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v78 : Ref sig .tc := ⟨.hbm, 112, rfl⟩
abbrev main_v79 : Ref sig .tc := ⟨.hbm, 113, rfl⟩
abbrev main_cst_9 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_10 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_11 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_12 : Ref sig .tc := ⟨.hbm, 141, rfl⟩
abbrev main_v104 : Ref sig .tc := ⟨.hbm, 142, rfl⟩
abbrev main_cst_13 : Ref sig .tc := ⟨.hbm, 143, rfl⟩
abbrev main_v105 : Ref sig .tc := ⟨.hbm, 144, rfl⟩
abbrev main_c : Ref sig .tc := ⟨.hbm, 145, rfl⟩
abbrev main_v106_0 : Ref sig .tc := ⟨.hbm, 146, rfl⟩
abbrev main_v106_1 : Ref sig .tc := ⟨.hbm, 147, rfl⟩
abbrev main_v106_2 : Ref sig .tc := ⟨.hbm, 148, rfl⟩
abbrev main_v106_3 : Ref sig .tc := ⟨.hbm, 149, rfl⟩
abbrev main_v106_4 : Ref sig .tc := ⟨.hbm, 150, rfl⟩
abbrev main_v106_5 : Ref sig .tc := ⟨.hbm, 151, rfl⟩
abbrev main_v106_6 : Ref sig .tc := ⟨.hbm, 152, rfl⟩
abbrev main_v106_7 : Ref sig .tc := ⟨.hbm, 153, rfl⟩
abbrev main_v106_8 : Ref sig .tc := ⟨.hbm, 154, rfl⟩
abbrev main_v106_9 : Ref sig .tc := ⟨.hbm, 155, rfl⟩
abbrev main_while0c_c_28 : Ref sig .tc := ⟨.hbm, 156, rfl⟩
abbrev main_while0c_v138 : Ref sig .tc := ⟨.hbm, 157, rfl⟩
abbrev main_while0b_call2_c : Ref sig .tc := ⟨.hbm, 158, rfl⟩
abbrev main_while0b_call2_c_0 : Ref sig .tc := ⟨.hbm, 159, rfl⟩
abbrev main_while0b_call2_c_1 : Ref sig .tc := ⟨.hbm, 160, rfl⟩
abbrev main_while0b_call2_c_2 : Ref sig .tc := ⟨.hbm, 161, rfl⟩
abbrev main_while0b_call2_v0 : Ref sig .tc := ⟨.hbm, 162, rfl⟩
abbrev main_while0b_v138 : Ref sig .tc := ⟨.hbm, 163, rfl⟩
abbrev main_while0b_call3_c : Ref sig .tc := ⟨.hbm, 164, rfl⟩
abbrev main_while0b_call3_c_0 : Ref sig .tc := ⟨.hbm, 165, rfl⟩
abbrev main_while0b_call3_c_1 : Ref sig .tc := ⟨.hbm, 166, rfl⟩
abbrev main_while0b_call3_c_2 : Ref sig .tc := ⟨.hbm, 167, rfl⟩
abbrev main_while0b_call3_v0 : Ref sig .tc := ⟨.hbm, 168, rfl⟩
abbrev main_while0b_v139 : Ref sig .tc := ⟨.hbm, 169, rfl⟩
abbrev main_while0b_call4_c : Ref sig .tc := ⟨.hbm, 170, rfl⟩
abbrev main_while0b_call4_c_0 : Ref sig .tc := ⟨.hbm, 171, rfl⟩
abbrev main_while0b_call4_c_1 : Ref sig .tc := ⟨.hbm, 172, rfl⟩
abbrev main_while0b_call4_c_2 : Ref sig .tc := ⟨.hbm, 173, rfl⟩
abbrev main_while0b_call4_v0 : Ref sig .tc := ⟨.hbm, 174, rfl⟩
abbrev main_while0b_v140 : Ref sig .tc := ⟨.hbm, 175, rfl⟩
abbrev main_while0b_v141 : Ref sig .tc := ⟨.hbm, 176, rfl⟩
abbrev main_while0b_v142 : Ref sig .tc := ⟨.hbm, 177, rfl⟩
abbrev main_while0b_v143 : Ref sig .tc := ⟨.hbm, 178, rfl⟩
abbrev main_while0b_v144 : Ref sig .tc := ⟨.hbm, 179, rfl⟩
abbrev main_while0b_v145 : Ref sig .tc := ⟨.hbm, 180, rfl⟩
abbrev main_while0b_v146 : Ref sig .tc := ⟨.hbm, 181, rfl⟩
abbrev main_while0b_v147 : Ref sig .tc := ⟨.hbm, 182, rfl⟩
abbrev main_while0b_v148 : Ref sig .tc := ⟨.hbm, 183, rfl⟩
abbrev main_while0b_v149 : Ref sig .tc := ⟨.hbm, 184, rfl⟩
abbrev main_while0b_v150 : Ref sig .tc := ⟨.hbm, 185, rfl⟩
abbrev main_while0b_v151 : Ref sig .tc := ⟨.hbm, 186, rfl⟩
abbrev main_while0b_v152 : Ref sig .tc := ⟨.hbm, 187, rfl⟩
abbrev main_while0b_v153 : Ref sig .tc := ⟨.hbm, 188, rfl⟩
abbrev main_while0b_v154 : Ref sig .tc := ⟨.hbm, 189, rfl⟩
abbrev main_while0b_v155 : Ref sig .tc := ⟨.hbm, 190, rfl⟩
abbrev main_while0b_v156 : Ref sig .tc := ⟨.hbm, 191, rfl⟩
abbrev main_while0b_v157 : Ref sig .tc := ⟨.hbm, 192, rfl⟩
abbrev main_while0b_v158 : Ref sig .tc := ⟨.hbm, 193, rfl⟩
abbrev main_while0b_v159 : Ref sig .tc := ⟨.hbm, 194, rfl⟩
abbrev main_while0b_v160 : Ref sig .tc := ⟨.hbm, 195, rfl⟩
abbrev main_while0b_v161 : Ref sig .tc := ⟨.hbm, 196, rfl⟩
abbrev main_while0b_call5_v0 : Ref sig .tc := ⟨.hbm, 197, rfl⟩
abbrev main_while0b_call5_c : Ref sig .tc := ⟨.hbm, 198, rfl⟩
abbrev main_while0b_call5_c_0 : Ref sig .tc := ⟨.hbm, 199, rfl⟩
abbrev main_while0b_call5_c_1 : Ref sig .tc := ⟨.hbm, 200, rfl⟩
abbrev main_while0b_call5_c_2 : Ref sig .tc := ⟨.hbm, 201, rfl⟩
abbrev main_while0b_v162 : Ref sig .tc := ⟨.hbm, 202, rfl⟩
abbrev main_while0b_c_28 : Ref sig .tc := ⟨.hbm, 203, rfl⟩
abbrev main_while0b_v163 : Ref sig .tc := ⟨.hbm, 204, rfl⟩
abbrev main_v107 : Ref sig .tc := ⟨.hbm, 205, rfl⟩
abbrev main_v108 : Ref sig .tc := ⟨.hbm, 206, rfl⟩
abbrev main_cst_14 : Ref sig .tc := ⟨.hbm, 207, rfl⟩
abbrev main_v109 : Ref sig .tc := ⟨.hbm, 208, rfl⟩
abbrev main_v110 : Ref sig .tc := ⟨.hbm, 209, rfl⟩
abbrev main_cst_15 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_cst_16 : Ref sig .tc := ⟨.hbm, 216, rfl⟩
abbrev main_v116 : Ref sig .tc := ⟨.hbm, 217, rfl⟩
abbrev main_v117 : Ref sig .tc := ⟨.hbm, 218, rfl⟩
abbrev main_cst_17 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_cst_18 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_call6_v0 : Ref sig .tc := ⟨.hbm, 237, rfl⟩
abbrev main_call6_v1 : Ref sig .tc := ⟨.hbm, 238, rfl⟩
abbrev main_call6_cst : Ref sig .tc := ⟨.hbm, 239, rfl⟩
abbrev main_call6_v2 : Ref sig .tc := ⟨.hbm, 240, rfl⟩
abbrev main_call6_v3 : Ref sig .tc := ⟨.hbm, 241, rfl⟩
abbrev main_call6_cst_0 : Ref sig .tc := ⟨.hbm, 242, rfl⟩
abbrev main_call6_v4 : Ref sig .tc := ⟨.hbm, 243, rfl⟩
abbrev main_call6_v5 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x2048 : Shape := ⟨2, ![8192, 2048]⟩
abbrev S4x2048x8192 : Shape := ⟨3, ![4, 2048, 8192]⟩
abbrev S4x8192x2048 : Shape := ⟨3, ![4, 8192, 2048]⟩
abbrev S4x2048 : Shape := ⟨2, ![4, 2048]⟩
abbrev S4x1x2048 : Shape := ⟨3, ![4, 1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1x1x2048 : Shape := ⟨3, ![1, 1, 2048]⟩
abbrev S2048x512 : Shape := ⟨2, ![2048, 512]⟩
abbrev S1024x512 : Shape := ⟨2, ![1024, 512]⟩
abbrev S1x512x512 : Shape := ⟨3, ![1, 512, 512]⟩
abbrev S512x512 : Shape := ⟨2, ![512, 512]⟩
abbrev S1x2048 : Shape := ⟨2, ![1, 2048]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048x8192, .f32⟩
  | .hbm, ⟨2, _⟩ => ⟨S4x8192x2048, .f32⟩
  | .hbm, ⟨3, _⟩ => ⟨S4x2048, .f32⟩
  | .hbm, ⟨4, _⟩ => ⟨S4x2048, .f32⟩
  | .hbm, ⟨5, _⟩ => ⟨S4x1x2048, .f32⟩
  | .hbm, ⟨6, _⟩ => ⟨S4x1x2048, .f32⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x512x2048, .f32⟩
  | .local _ .vmem, ⟨5, _⟩ => ⟨S1x512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1024x2048, .f32⟩
  | .local _ .vmem, ⟨9, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S4x2048x8192 : Shape := ⟨3, ![4, 2048, 8192]⟩
abbrev S4x8192x2048 : Shape := ⟨3, ![4, 8192, 2048]⟩
abbrev S4x2048 : Shape := ⟨2, ![4, 2048]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩
abbrev S1x8192x2048 : Shape := ⟨3, ![1, 8192, 2048]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048x8192, .f32⟩
  | .hbm, ⟨2, _⟩ => ⟨S4x8192x2048, .f32⟩
  | .hbm, ⟨3, _⟩ => ⟨S4x2048, .f32⟩
  | .hbm, ⟨4, _⟩ => ⟨S4x2048, .f32⟩
  | .hbm, ⟨5, _⟩ => ⟨S1x2048x8192, .f32⟩
  | .hbm, ⟨6, _⟩ => ⟨S2048x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S1x8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S8192x4096 : Shape := ⟨2, ![8192, 4096]⟩
abbrev S8192x2048 : Shape := ⟨2, ![8192, 2048]⟩
abbrev S1x4096x2048 : Shape := ⟨3, ![1, 4096, 2048]⟩
abbrev S4x2048 : Shape := ⟨2, ![4, 2048]⟩
abbrev S4x1x2048 : Shape := ⟨3, ![4, 1, 2048]⟩
abbrev S4096x2048 : Shape := ⟨2, ![4096, 2048]⟩
abbrev S512x4096 : Shape := ⟨2, ![512, 4096]⟩
abbrev S512x2048 : Shape := ⟨2, ![512, 2048]⟩
abbrev S1x1x2048 : Shape := ⟨3, ![1, 1, 2048]⟩
abbrev S256x4096 : Shape := ⟨2, ![256, 4096]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S1x4096x2048, .f32⟩
  | .hbm, ⟨3, _⟩ => ⟨S4x2048, .f32⟩
  | .hbm, ⟨4, _⟩ => ⟨S4x2048, .f32⟩
  | .hbm, ⟨5, _⟩ => ⟨S4x1x2048, .f32⟩
  | .hbm, ⟨6, _⟩ => ⟨S4x1x2048, .f32⟩
  | .hbm, ⟨7, _⟩ => ⟨S4096x2048, .f32⟩
  | .hbm, ⟨8, _⟩ => ⟨S4096x2048, .bf16⟩
  | .hbm, ⟨9, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x4096 : Shape := ⟨2, ![8192, 4096]⟩
abbrev S8192x2048 : Shape := ⟨2, ![8192, 2048]⟩
abbrev S1x4096x2048 : Shape := ⟨3, ![1, 4096, 2048]⟩
abbrev S4x2048 : Shape := ⟨2, ![4, 2048]⟩
abbrev S4096x2048 : Shape := ⟨2, ![4096, 2048]⟩
abbrev S_ : Shape := ⟨0, ![]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S1x4096x2048, .f32⟩
  | .hbm, ⟨3, _⟩ => ⟨S4x2048, .f32⟩
  | .hbm, ⟨4, _⟩ => ⟨S4x2048, .f32⟩
  | .hbm, ⟨5, _⟩ => ⟨S8192x4096, .f32⟩
  | .hbm, ⟨6, _⟩ => ⟨S4096x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel4.lean ====
abbrev S8192x2048 : Shape := ⟨2, ![8192, 2048]⟩
abbrev S1x2048x12288 : Shape := ⟨3, ![1, 2048, 12288]⟩
abbrev S8192x12288 : Shape := ⟨2, ![8192, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x2048x12288, .f32⟩
  | .hbm, ⟨2, _⟩ => ⟨S8192x12288, .bf16⟩
  | .local _ .vmem, ⟨0, _⟩ => ⟨S1024x2048, .f32⟩
  | .local _ .vmem, ⟨1, _⟩ => ⟨S1024x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S1x2048x12288 : Shape := ⟨3, ![1, 2048, 12288]⟩
abbrev S2048x12288 : Shape := ⟨2, ![2048, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x12288, .f32⟩
  | .hbm, ⟨2, _⟩ => ⟨S2048x12288, .f32⟩
  | .hbm, ⟨3, _⟩ => ⟨S8192x12288, .f32⟩
  | .hbm, ⟨4, _⟩ => ⟨S8192x12288, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x2048 : Shape := ⟨2, ![8192, 2048]⟩
abbrev S1x2048x10304 : Shape := ⟨3, ![1, 2048, 10304]⟩
abbrev S1x10304x2048 : Shape := ⟨3, ![1, 10304, 2048]⟩
abbrev S8192x10240 : Shape := ⟨2, ![8192, 10240]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x2048x10304, .f32⟩
  | .hbm, ⟨2, _⟩ => ⟨S1x10304x2048, .f32⟩
  | .hbm, ⟨3, _⟩ => ⟨S8192x10240, .f32⟩
  | .local _ .vmem, ⟨0, _⟩ => ⟨S1024x2048, .f32⟩
  | .local _ .vmem, ⟨1, _⟩ => ⟨S1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 10], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S1x2048x10304 : Shape := ⟨3, ![1, 2048, 10304]⟩
abbrev S2048x10304 : Shape := ⟨2, ![2048, 10304]⟩
abbrev S8192x10304 : Shape := ⟨2, ![8192, 10304]⟩
abbrev S8192x4096 : Shape := ⟨2, ![8192, 4096]⟩
abbrev S8192x6144 : Shape := ⟨2, ![8192, 6144]⟩
abbrev S8192x64 : Shape := ⟨2, ![8192, 64]⟩
abbrev S_ : Shape := ⟨0, ![]⟩
abbrev S8192x10240 : Shape := ⟨2, ![8192, 10240]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x10304, .f32⟩
  | .hbm, ⟨2, _⟩ => ⟨S2048x10304, .f32⟩
  | .hbm, ⟨3, _⟩ => ⟨S8192x10304, .f32⟩
  | .hbm, ⟨4, _⟩ => ⟨S8192x4096, .f32⟩
  | .hbm, ⟨5, _⟩ => ⟨S8192x6144, .f32⟩
  | .hbm, ⟨6, _⟩ => ⟨S8192x64, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x10240, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Kernel6.lean ====
abbrev S8192x2048 : Shape := ⟨2, ![8192, 2048]⟩
abbrev S2x2048x2048 : Shape := ⟨3, ![2, 2048, 2048]⟩
abbrev S16x8192x128 : Shape := ⟨3, ![16, 8192, 128]⟩
abbrev S512x2048 : Shape := ⟨2, ![512, 2048]⟩
abbrev S1x2048x2048 : Shape := ⟨3, ![1, 2048, 2048]⟩
abbrev S16x512x128 : Shape := ⟨3, ![16, 512, 128]⟩
abbrev S2048x2048 : Shape := ⟨2, ![2048, 2048]⟩
abbrev S512x128 : Shape := ⟨2, ![512, 128]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2x2048x2048, .f32⟩
  | .hbm, ⟨2, _⟩ => ⟨S16x8192x128, .f32⟩
  | .local _ .vmem, ⟨0, _⟩ => ⟨S512x2048, .f32⟩
  | .local _ .vmem, ⟨1, _⟩ => ⟨S512x2048, .f32⟩
  | .local _ .vmem, ⟨2, _⟩ => ⟨S1x2048x2048, .f32⟩
  | .local _ .vmem, ⟨3, _⟩ => ⟨S16x512x128, .f32⟩
  | .local _ .vmem, ⟨4, _⟩ => ⟨S16x512x128, .f32⟩
  | .local _ .vmem, ⟨5, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S8192x16x128 : Shape := ⟨3, ![8192, 16, 128]⟩
abbrev S16x8192x128 : Shape := ⟨3, ![16, 8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x2048, .f32⟩
  | .hbm, ⟨2, _⟩ => ⟨S1x2048x2048, .f32⟩
  | .hbm, ⟨3, _⟩ => ⟨S2048x2048, .f32⟩
  | .hbm, ⟨4, _⟩ => ⟨S8192x2048, .f32⟩
  | .hbm, ⟨5, _⟩ => ⟨S8192x16x128, .f32⟩
  | .hbm, ⟨6, _⟩ => ⟨S16x8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S16x8192x128 : Shape := ⟨3, ![16, 8192, 128]⟩
abbrev S8192x2048 : Shape := ⟨2, ![8192, 2048]⟩
abbrev S2x2048x2048 : Shape := ⟨3, ![2, 2048, 2048]⟩
abbrev S4x2048 : Shape := ⟨2, ![4, 2048]⟩
abbrev S4x1x2048 : Shape := ⟨3, ![4, 1, 2048]⟩
abbrev S16x512x128 : Shape := ⟨3, ![16, 512, 128]⟩
abbrev S1x2048x2048 : Shape := ⟨3, ![1, 2048, 2048]⟩
abbrev S512x2048 : Shape := ⟨2, ![512, 2048]⟩
abbrev S1x1x2048 : Shape := ⟨3, ![1, 1, 2048]⟩
abbrev S1x256x128 : Shape := ⟨3, ![1, 256, 128]⟩
abbrev S256x128 : Shape := ⟨2, ![256, 128]⟩
abbrev S256x2048 : Shape := ⟨2, ![256, 2048]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S16x8192x128, .f32⟩
  | .hbm, ⟨1, _⟩ => ⟨S8192x2048, .f32⟩
  | .hbm, ⟨2, _⟩ => ⟨S2x2048x2048, .f32⟩
  | .hbm, ⟨3, _⟩ => ⟨S2x2048x2048, .f32⟩
  | .hbm, ⟨4, _⟩ => ⟨S4x2048, .f32⟩
  | .hbm, ⟨5, _⟩ => ⟨S4x2048, .f32⟩
  | .hbm, ⟨6, _⟩ => ⟨S4x1x2048, .f32⟩
  | .hbm, ⟨7, _⟩ => ⟨S4x1x2048, .f32⟩
  | .hbm, ⟨8, _⟩ => ⟨S2x2048x2048, .bf16⟩
  | .hbm, ⟨9, _⟩ => ⟨S2x2048x2048, .bf16⟩
  | .hbm, ⟨10, _⟩ => ⟨S8192x2048, .f32⟩
  | .local _ .vmem, ⟨0, _⟩ => ⟨S16x512x128, .f32⟩
  | .local _ .vmem, ⟨1, _⟩ => ⟨S16x512x128, .f32⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S512x2048, .f32⟩
  | .local _ .vmem, ⟨9, _⟩ => ⟨S512x2048, .f32⟩
  | _, _ => ⟨S16x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16x8192x128 : Shape := ⟨3, ![16, 8192, 128]⟩
abbrev S8192x2048 : Shape := ⟨2, ![8192, 2048]⟩
abbrev S2x2048x2048 : Shape := ⟨3, ![2, 2048, 2048]⟩
abbrev S4x2048 : Shape := ⟨2, ![4, 2048]⟩
abbrev S8192x16x128 : Shape := ⟨3, ![8192, 16, 128]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x8192x128, .f32⟩
  | .hbm, ⟨1, _⟩ => ⟨S8192x2048, .f32⟩
  | .hbm, ⟨2, _⟩ => ⟨S2x2048x2048, .f32⟩
  | .hbm, ⟨3, _⟩ => ⟨S2x2048x2048, .f32⟩
  | .hbm, ⟨4, _⟩ => ⟨S4x2048, .f32⟩
  | .hbm, ⟨5, _⟩ => ⟨S4x2048, .f32⟩
  | .hbm, ⟨6, _⟩ => ⟨S8192x16x128, .f32⟩
  | .hbm, ⟨7, _⟩ => ⟨S8192x2048, .f32⟩
  | .hbm, ⟨8, _⟩ => ⟨S1x2048x2048, .f32⟩
  | .hbm, ⟨9, _⟩ => ⟨S2048x2048, .f32⟩
  | .hbm, ⟨10, _⟩ => ⟨S8192x2048, .f32⟩
  | .hbm, ⟨11, _⟩ => ⟨S1x2048x2048, .f32⟩
  | .hbm, ⟨12, _⟩ => ⟨S2048x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | _, _ => ⟨S16x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Proof.RetMath.lean ====
/- The mathematics of the chunked retention over the reals: the decayed sums over the positions seen so far, and that a chunk of any
   length carries them on. Nothing here mentions a program. -/
module

public import Idealize.ShloMosaic.PureOps.Ideal
public import Idealize.ShloMosaic.PureOps.Ideal.Laws
public import Idealize.ShloMosaic.Lib.IdealHost
public import Mathlib.Analysis.SpecialFunctions.Exp
public import Mathlib.Analysis.SpecialFunctions.Trigonometric.DerivHyp

@[expose] public section
noncomputable section
namespace RetM

open Finset

/-- The state after the first `n` positions: the sum of `k m d * v m e`, decayed by the distance to position `n - 1`. -/
def stSum (lg : ℝ) (k v : ℕ → ℕ → ℝ) (n d e : ℕ) : ℝ :=
  ∑ m ∈ range n, Real.exp (((n : ℝ) - 1 - m) * lg) * (k m d * v m e)

/-- The retention at position `n`: the values up to `n`, weighted by the scores and the decay. -/
def outSum (K : ℕ) (lg : ℝ) (q k v : ℕ → ℕ → ℝ) (n e : ℕ) : ℝ :=
  ∑ m ∈ range (n + 1), Real.exp (((n : ℝ) - m) * lg) * (∑ d : Fin K, q n d * k m d) * v m e

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem stSum_zero (lg : ℝ) (k v : ℕ → ℕ → ℝ) (d e : ℕ) : stSum lg k v 0 d e = 0 := by simp [stSum]

/-- The state a chunk of `C` positions on. -/
theorem stSum_step (lg : ℝ) (k v : ℕ → ℕ → ℝ) (C n d e : ℕ) :
    Real.exp (C * lg) * stSum lg k v n d e
      + ∑ m : Fin C, (k (n + m) d * Real.exp (((C : ℝ) - 1 - (m : ℕ)) * lg)) * v (n + m) e = stSum lg k v (n + C) d e := by
  unfold stSum
  rw [Finset.sum_range_add, mul_sum, Finset.sum_range (n := C)]
  congr 1
  · refine sum_congr rfl fun m _ => ?_
    rw [← mul_assoc, ← Real.exp_add]
    congr 2
    push_cast; ring
  · refine sum_congr rfl fun m _ => ?_
    have : ((n + C : ℕ) : ℝ) - 1 - ((n + m : ℕ) : ℝ) = (C : ℝ) - 1 - (m : ℕ) := by push_cast; ring
    rw [this]; ring

/-- The decay mask of a chunk. -/
def dmask (lg : ℝ) (r m : ℕ) : ℝ := if m ≤ r then Real.exp (((r : ℝ) - m) * lg) else 0

/-- A chunk's row: the masked scores within the chunk and the carried state's part make up the retention. -/
theorem outSum_step (K : ℕ) (lg : ℝ) (q k v : ℕ → ℕ → ℝ) (C n r e : ℕ) (hr : r < C) :
    ∑ m : Fin C, ((∑ d : Fin K, q (n + r) d * k (n + m) d) * dmask lg r m) * v (n + m) e
      + (∑ d : Fin K, q (n + r) d * stSum lg k v n d e) * Real.exp (((r : ℝ) + 1) * lg) = outSum K lg q k v (n + r) e := by
  unfold outSum
  rw [add_assoc n r 1, Finset.sum_range_add, add_comm]
  congr 1
  · rw [sum_mul]
    simp only [stSum, mul_sum, sum_mul]
    rw [sum_comm]
    refine sum_congr rfl fun m _ => ?_
    refine sum_congr rfl fun d _ => ?_
    have : Real.exp ((((n + r : ℕ) : ℝ) - m) * lg) = Real.exp (((n : ℝ) - 1 - m) * lg) * Real.exp (((r : ℝ) + 1) * lg) := by
      rw [← Real.exp_add]; congr 1; push_cast; ring
    rw [this]; ring
  · rw [← Finset.sum_range (fun m => ((∑ d : Fin K, q (n + r) d * k (n + m) d) * dmask lg r m) * v (n + m) e)]
    have hs : range (r + 1) ⊆ range C := range_subset_range.2 hr
    rw [← sum_subset hs]
    · refine sum_congr rfl fun m hm => ?_
      have hm' : m ≤ r := by have := mem_range.1 hm; omega
      rw [dmask, if_pos hm']
      have : ((n + r : ℕ) : ℝ) - ((n + m : ℕ) : ℝ) = (r : ℝ) - m := by push_cast; ring
      rw [this]; ring
    · intro m _ hm
      have hm' : ¬ m ≤ r := by intro h; exact hm (mem_range.2 (by omega))
      rw [dmask, if_neg hm', mul_zero, zero_mul]

/-- The state's step over the extended reals, every entry a real number. -/
theorem stSum_stepE (lg : ℝ) (k v : ℕ → ℕ → ℝ) (C n d e : ℕ) :
    (Real.exp (C * lg) : EReal) * (stSum lg k v n d e : EReal)
      + ∑ m : Fin C, ((k (n + m) d : EReal) * (Real.exp (((C : ℝ) - 1 - (m : ℕ)) * lg) : EReal)) * (v (n + m) e : EReal)
      = (stSum lg k v (n + C) d e : EReal) := by
  rw [← stSum_step lg k v C n d e]
  simp only [EReal.coe_add, coe_sum, EReal.coe_mul]

/-- The row's step over the extended reals, every entry a real number. -/
theorem outSum_stepE (K : ℕ) (lg : ℝ) (q k v : ℕ → ℕ → ℝ) (C n r e : ℕ) (hr : r < C) :
    ∑ m : Fin C, ((∑ d : Fin K, (q (n + r) d : EReal) * (k (n + m) d : EReal)) * (dmask lg r m : EReal)) * (v (n + m) e : EReal)
      + (∑ d : Fin K, (q (n + r) d : EReal) * (stSum lg k v n d e : EReal)) * (Real.exp (((r : ℝ) + 1) * lg) : EReal)
      = (outSum K lg q k v (n + r) e : EReal) := by
  rw [← outSum_step K lg q k v C n r e hr]
  simp only [EReal.coe_add, coe_sum, EReal.coe_mul]

/-- `tanh` of half a number, through the exponential. -/
theorem half_tanh (x : ℝ) : (1 : ℝ) / 2 * x + 1 / 2 * x * Real.tanh (1 / 2 * x) = x * (1 / (1 + Real.exp (-x))) := by
  have h1 : (0 : ℝ) < 1 + Real.exp (-x) := by positivity
  have e : Real.tanh (1 / 2 * x) = (1 - Real.exp (-x)) / (1 + Real.exp (-x)) := by
    rw [Real.tanh_eq_sinh_div_cosh, Real.sinh_eq, Real.cosh_eq]
    have hx : Real.exp (-x) = Real.exp (-(1 / 2 * x)) * Real.exp (-(1 / 2 * x)) := by rw [← Real.exp_add]; congr 1; ring
    have hy : Real.exp (1 / 2 * x) * Real.exp (-(1 / 2 * x)) = 1 := by rw [← Real.exp_add]; simp
    have p : (0 : ℝ) < Real.exp (1 / 2 * x) := Real.exp_pos _
    have p' : (0 : ℝ) < Real.exp (-(1 / 2 * x)) := Real.exp_pos _
    rw [hx]
    rw [div_eq_div_iff (by positivity) (by positivity)]
    set a := Real.exp (1 / 2 * x)
    set b := Real.exp (-(1 / 2 * x))
    nlinarith [hy]
  rw [e]; field_simp; ring

end RetM
end
-- ==== Proof.RetDefs.lean ====
/- The retention as functions of real numbers: the rotated queries and keys, the values and gates read off the projections, the group norm and
   the gate of a row. Both programs' values are stated through these. -/
module

public import proofs.«01_k».proof.Proof.RetMath

@[expose] public section
noncomputable section
namespace RetM
open Idealize.ShloMosaic Finset

/-- The rotation of a row `x` of 256 entries: its two halves turned by the angles whose cosines and sines are `c` and `s`. -/
def rot (c s x : ℕ → ℝ) (d : ℕ) : ℝ :=
  if d < 128 then x d * c d - x (128 + d) * s d else x (d - 128) * s (d - 128) + x (128 + (d - 128)) * c (d - 128)

/-- Rotated query, rotated and scaled key, value and gate of head `h` at position `n`: `P n j` is column `j` of the projections there. -/
def qq (P ct sn : ℕ → ℕ → ℝ) (h n d : ℕ) : ℝ := rot (ct n) (sn n) (fun j => P n (256 * h + j)) d
def kk (P ct sn : ℕ → ℕ → ℝ) (h n d : ℕ) : ℝ := rot (ct n) (sn n) (fun j => P n (2048 + (256 * h + j)) * (1 / 16)) d
def vv (P : ℕ → ℕ → ℝ) (h n e : ℕ) : ℝ := P n (4096 + (512 * h + e))
def gg (P : ℕ → ℕ → ℝ) (h n e : ℕ) : ℝ := P n (8192 + (512 * h + e))

/-- The retention of head `h` at position `n`. -/
def oo (P ct sn : ℕ → ℕ → ℝ) (lg : ℕ → ℝ) (h n e : ℕ) : ℝ :=
  outSum 256 (lg h) (qq P ct sn h) (kk P ct sn h) (vv P h) n e

/-- The group norm of a row of 512 entries. -/
def normT (o : Fin 512 → EReal) (e : Fin 512) : EReal :=
  (o e - Ideal.div (∑ x, o x) (Ideal.ofBits FTy.f32 0x44000000#32))
    * Ideal.rsqrt (Ideal.div (∑ y, (o y - Ideal.div (∑ x, o x) (Ideal.ofBits FTy.f32 0x44000000#32)) * (o y - Ideal.div (∑ x, o x) (Ideal.ofBits FTy.f32 0x44000000#32)))
        (Ideal.ofBits FTy.f32 0x44000000#32) + Ideal.ofBits FTy.f32 0x3727C5AC#32)

/-- The gate of a real number. -/
def silu (g : ℝ) : EReal := ((g * (1 / (1 + Real.exp (-g))) : ℝ) : EReal)

theorem lit_half : Ideal.ofBits FTy.f32 0x3F000000#32 = ((1 / 2 : ℝ) : EReal) := by
  simp [Ideal.ofBits, Ideal.ieee, -EReal.coe_mul]; norm_num
theorem lit_sixteenth : Ideal.ofBits FTy.f32 0x3D800000#32 = ((1 / 16 : ℝ) : EReal) := by
  simp [Ideal.ofBits, Ideal.ieee, -EReal.coe_mul]; norm_num

theorem gate_tanh (g : ℝ) :
    Ideal.ofBits FTy.f32 0x3F000000#32 * (g : EReal)
      + Ideal.ofBits FTy.f32 0x3F000000#32 * (g : EReal) * Ideal.tanh (Ideal.ofBits FTy.f32 0x3F000000#32 * (g : EReal)) = silu g := by
  rw [lit_half, ← EReal.coe_mul, Ideal.tanh_coe, ← EReal.coe_mul, ← EReal.coe_add, silu, half_tanh]

theorem gate_logistic (g : ℝ) : (g : EReal) * Ideal.div 1 (1 + Ideal.exp (-(g : EReal))) = silu g := by
  have h : (1 : EReal) + Ideal.exp (-(g : EReal)) = ((1 + Real.exp (-g) : ℝ) : EReal) := by
    rw [← EReal.coe_neg, Ideal.exp_coe, EReal.coe_add, EReal.coe_one]
  have hp : (1 + Real.exp (-g) : ℝ) ≠ 0 := by positivity
  rw [h, Ideal.div_coe hp, one_mul, ← EReal.coe_mul, silu]

/-- The result at position `n`, entry `e` of head `h`. -/
def outAt (P ct sn : ℕ → ℕ → ℝ) (lg : ℕ → ℝ) (n h : ℕ) (e : Fin 512) : EReal :=
  silu (gg P h n e) * normT (fun e => (oo P ct sn lg h n e : EReal)) e

theorem outAt_split (P ct sn : ℕ → ℕ → ℝ) (lg : ℕ → ℝ) (n h : ℕ) (e : Fin 512) (n' j : ℕ) (hn : n = n') (hj : 512 * h + e.val = j) :
    silu (gg P h n e) * normT (fun e => (outSum 256 (lg h) (qq P ct sn h) (kk P ct sn h) (vv P h) n e : EReal)) e
      = outAt P ct sn lg n' (j / 512) ⟨j % 512, Nat.mod_lt _ (by decide)⟩ := by
  subst hn hj
  have h1 : (512 * h + e.val) / 512 = h := by have := e.2; omega
  have h2 : (⟨(512 * h + e.val) % 512, Nat.mod_lt _ (by decide)⟩ : Fin 512) = e := Fin.ext (by show _ % 512 = _; have := e.2; omega)
  rw [h1, h2]; rfl

end RetM
end
-- ==== Proof.RetTab.lean ====
/- The tables over the real numbers: the angles' cosines and sines, the decay rates, and the decay tables computed from them. -/
module

public import proofs.«01_k».proof.Proof.Gen.ReferenceIdeal.Step
public import proofs.«01_k».proof.Proof.RetDefs
public import Idealize.ShloMosaic.Lib.Pointwise

@[expose] public section
noncomputable section
open Idealize.ShloMosaic
namespace Cert.ReferenceIdeal.Ret
open Cert.ReferenceIdeal Cert.ReferenceIdeal.Gen Cert.ReferenceIdeal.Step RetM

set_option maxRecDepth 65536
set_option maxHeartbeats 1000000

theorem lit_one : Ideal.ofBits FTy.f32 0x3F800000#32 = ((1 : ℝ) : EReal) := by
  simp [Ideal.ofBits, Ideal.ieee, -EReal.coe_mul]; norm_num
theorem lit_zero : Ideal.ofBits FTy.f32 0x00000000#32 = ((0 : ℝ) : EReal) := by
  simp [Ideal.ofBits, Ideal.ieee, -EReal.coe_mul]
theorem lit_127 : Ideal.ofBits FTy.f32 0x42FE0000#32 = ((127 : ℝ) : EReal) := by
  simp [Ideal.ofBits, Ideal.ieee, -EReal.coe_mul]; norm_num
theorem lit_128 : Ideal.ofBits FTy.f32 0x43000000#32 = ((128 : ℝ) : EReal) := by
  simp [Ideal.ofBits, Ideal.ieee, -EReal.coe_mul]; norm_num
theorem lit_255 : Ideal.ofBits FTy.f32 0x437F0000#32 = ((255 : ℝ) : EReal) := by
  simp [Ideal.ofBits, Ideal.ieee, -EReal.coe_mul]; norm_num
theorem lit_256 : Ideal.ofBits FTy.f32 0x43800000#32 = ((256 : ℝ) : EReal) := by
  simp [Ideal.ofBits, Ideal.ieee, -EReal.coe_mul]; norm_num
theorem lit_base : Ideal.ofBits FTy.f32 0x461C4000#32 = ((10000 : ℝ) : EReal) := by
  simp [Ideal.ofBits, Ideal.ieee, -EReal.coe_mul]; norm_num
theorem lit_m5 : Ideal.ofBits FTy.f32 0xC0A00000#32 = ((-5 : ℝ) : EReal) := by
  simp [Ideal.ofBits, Ideal.ieee, -EReal.coe_mul]; norm_num
theorem lit_ln2 : Ideal.ofBits FTy.f32 0x3F317218#32 = ((11629080 / 2 ^ 24 : ℝ) : EReal) := by
  simp [Ideal.ofBits, Ideal.ieee, -EReal.coe_mul]; norm_num

theorem nat_val (n : ℕ) (hn : n < 2 ^ 31) : (FloatOps.sitofp FTy.f32 (BitVec.ofNat 32 n) : Ideal FTy.f32) = ((n : ℝ) : EReal) := by
  have h : (BitVec.ofNat 32 n).toInt = (n : ℤ) := by
    rw [BitVec.toInt_eq_toNat_of_lt] <;> rw [BitVec.toNat_ofNat, Nat.mod_eq_of_lt (by omega)]
    omega
  show (((BitVec.ofNat 32 n).toInt : ℝ) : EReal) = _
  rw [h]; norm_cast

/-- A decay table's entry. -/
theorem mask_val (l : ℝ) (r k : ℕ) :
    (if (0 : EReal) ≤ ((r : ℝ) : EReal) - ((k : ℝ) : EReal) then Ideal.exp (max (((r : ℝ) : EReal) - ((k : ℝ) : EReal)) 0 * (l : EReal)) else ((0 : ℝ) : EReal))
      = (dmask l r k : EReal) := by
  have key : ((0 : EReal) ≤ ((r : ℝ) : EReal) - ((k : ℝ) : EReal)) ↔ (0 : ℝ) ≤ (r : ℝ) - k := by
    rw [← EReal.coe_sub, ← EReal.coe_zero, EReal.coe_le_coe_iff]
  rw [dmask]
  by_cases h : k ≤ r
  · have h' : (0 : ℝ) ≤ (r : ℝ) - k := by simpa using h
    rw [if_pos h, if_pos (key.mpr h'), ← EReal.coe_sub, ← EReal.coe_zero, ← EReal.coe_strictMono.monotone.map_max, max_eq_left h', ← EReal.coe_mul, Ideal.exp_coe]
  · have h' : ¬ (0 : ℝ) ≤ (r : ℝ) - k := by simpa using h
    rw [if_neg h, if_neg (fun p => h' (key.mp p))]

/-- The exponents of the angles' frequencies are real. -/
theorem expo_real (d : Fin 128) : ∃ x : ℝ, (K_main_v11 (F := Ideal)) (ix1 d) = (x : EReal) := by
  pointwise [K_main_v11, K_main_call0_v15, K_main_call0_v16, K_main_call0_v11, K_main_call0_v14, K_main_call0_v13, K_main_call0_v12, K_main_call0_v10, K_main_call0_v9, K_main_call0_v8, K_main_call0_cst_1, K_main_call0_v7, K_main_call0_v6, K_main_call0_v5, K_main_call0_cst_0, K_main_call0_v4, K_main_call0_v1, K_main_call0_v0, K_main_cst_0, K_main_cst_1]
  split_ifs with hd
  · have h0 : (id (constant (F := Ideal) S_ FTy.f32 0#32) ) ix0 = ((0 : ℝ) : EReal) := lit_zero
    have h1 : (id (constant (F := Ideal) S_ FTy.f32 1065353216#32) ) ix0 = ((1 : ℝ) : EReal) := lit_one
    rw [h0, h1, lit_127, nat_val _ (by omega), Ideal.div_coe (by norm_num), ← EReal.coe_one, ← EReal.coe_mul, ← EReal.coe_sub, ← EReal.coe_mul, ← EReal.coe_mul,
      ← EReal.coe_add]
    exact ⟨_, rfl⟩
  · exact ⟨1, lit_one⟩
theorem ang_real (n : Fin 4096) (d : Fin 128) : ∃ x : ℝ, (K_main_v21 (F := Ideal)) (ix2 n d) = (x : EReal) := by
  obtain ⟨x, hx⟩ := expo_real d
  pointwise [K_main_v21, K_main_v19, K_main_v17, K_main_v16, K_main_v20, K_main_v18, K_main_v15, K_main_v14, K_main_cst_3, K_main_v13, K_main_v12, K_main_cst_2]
  have hp : (10000 : ℝ).rpow x ≠ 0 := (Real.rpow_pos_of_pos (by norm_num) x).ne'
  rw [hx, lit_base, nat_val _ (by omega), Ideal.pow_coe_coe, Ideal.div_coe hp, one_mul, ← EReal.coe_mul]
  exact ⟨_, rfl⟩
theorem lg_real (h : Fin 8) : ∃ x : ℝ, (K_main_v61 (F := Ideal)) (ix1 h) = (x : EReal) := by
  pointwise [K_main_v61, K_main_v60, K_main_v59, K_main_v58, K_main_v57, K_main_cst_5, K_main_v56, K_main_v55, K_main_cst_4, K_main_v54]
  have hn : (1 : ℝ) + -Real.exp (11629080 / 2 ^ 24 * (-5 - (h.val : ℝ))) > 0 := by
    have : Real.exp (11629080 / 2 ^ 24 * (-5 - (h.val : ℝ))) < 1 := by
      rw [Real.exp_lt_one_iff]
      have : (0 : ℝ) ≤ h.val := by positivity
      nlinarith
    linarith
  rw [lit_ln2, lit_m5, nat_val _ (by omega), ← EReal.coe_sub, ← EReal.coe_mul, Ideal.exp_coe, ← EReal.coe_neg, Ideal.log1p, ← EReal.coe_one, ← EReal.coe_add,
    Ideal.log_coe, if_neg (not_le.mpr hn)]
  exact ⟨_, rfl⟩

/-- The cosines, the sines and the decay rates as real functions. -/
def ct (n d : ℕ) : ℝ := if h : n < 4096 ∧ d < 128 then ((K_main_v22 (F := Ideal)) (ix2 ⟨n, h.1⟩ ⟨d, h.2⟩)).toReal else 0
def sn (n d : ℕ) : ℝ := if h : n < 4096 ∧ d < 128 then ((K_main_v23 (F := Ideal)) (ix2 ⟨n, h.1⟩ ⟨d, h.2⟩)).toReal else 0
def lg (h : ℕ) : ℝ := if p : h < 8 then ((K_main_v61 (F := Ideal)) (ix1 ⟨h, p⟩)).toReal else 0

theorem cos_eq (n : Fin 4096) (d : Fin 128) : (K_main_v22 (F := Ideal)) (ix2 n d) = (ct n d : EReal) := by
  obtain ⟨x, hx⟩ := ang_real n d
  have e : (K_main_v22 (F := Ideal)) (ix2 n d) = ((Real.cos x : ℝ) : EReal) := by
    unfold K_main_v22; show Ideal.cos _ = _; rw [hx, Ideal.cos_coe]
  rw [ct, dif_pos ⟨n.2, d.2⟩, e, EReal.toReal_coe]
theorem sin_eq (n : Fin 4096) (d : Fin 128) : (K_main_v23 (F := Ideal)) (ix2 n d) = (sn n d : EReal) := by
  obtain ⟨x, hx⟩ := ang_real n d
  have e : (K_main_v23 (F := Ideal)) (ix2 n d) = ((Real.sin x : ℝ) : EReal) := by
    unfold K_main_v23; show Ideal.sin _ = _; rw [hx, Ideal.sin_coe]
  rw [sn, dif_pos ⟨n.2, d.2⟩, e, EReal.toReal_coe]
theorem lg_eq (h : Fin 8) : (K_main_v61 (F := Ideal)) (ix1 h) = (lg h : EReal) := by
  obtain ⟨x, hx⟩ := lg_real h
  rw [lg, dif_pos h.2, hx, EReal.toReal_coe]

/-! The decay tables of the reference, for chunks of 128. -/

theorem dmat_eq (h : Fin 8) (r k : Fin 128) : (K_main_v78 (F := Ideal)) (ix3 h r k) = (dmask (lg h) r k : EReal) := by
  have hl := lg_eq h
  pointwise [K_main_v78, K_main_call1_v2, K_main_call1_v1, K_main_call1_v0, K_main_cst_8, K_main_v77, K_main_v76, K_main_v75, K_main_v74, K_main_v73, K_main_v72, K_main_v71, K_main_v70, K_main_v69, K_main_v68, K_main_v67, K_main_v66, K_main_v65, K_main_v64, K_main_v63, K_main_v62, K_main_cst_6, K_main_cst_7]
  have h0 : (id (constant (F := Ideal) S_ FTy.f32 0#32) ) ix0 = ((0 : ℝ) : EReal) := lit_zero
  rw [hl, h0, nat_val _ (by omega), nat_val _ (by omega)]
  exact mask_val _ _ _
theorem xi_eq (h : Fin 8) (r : Fin 128) : (K_main_v86 (F := Ideal)) (ix2 h r) = (Real.exp ((((r : ℕ) : ℝ) + 1) * lg h) : EReal) := by
  have hl := lg_eq h
  pointwise [K_main_v86, K_main_v85, K_main_v84, K_main_v83, K_main_v82, K_main_v81, K_main_v80, K_main_v79, K_main_cst_9, K_main_v62]
  rw [hl, nat_val _ (by omega), ← EReal.coe_one, ← EReal.coe_add, ← EReal.coe_mul, Ideal.exp_coe]
theorem zeta_eq (h : Fin 8) (r : Fin 128) : (K_main_v94 (F := Ideal)) (ix2 h r) = (Real.exp ((((128 : ℕ) : ℝ) - 1 - (r : ℕ)) * lg h) : EReal) := by
  have hl := lg_eq h
  pointwise [K_main_v94, K_main_v93, K_main_v92, K_main_v91, K_main_v90, K_main_v89, K_main_v88, K_main_v87, K_main_cst_10, K_main_v62]
  rw [hl, lit_127, nat_val _ (by omega), ← EReal.coe_sub, ← EReal.coe_mul, Ideal.exp_coe]
  norm_num
theorem cd_eq (h : Fin 8) : (K_main_v97 (F := Ideal)) (ix1 h) = (Real.exp (((128 : ℕ) : ℝ) * lg h) : EReal) := by
  have hl := lg_eq h
  pointwise [K_main_v97, K_main_v96, K_main_v95, K_main_cst_11]
  rw [hl, lit_128, ← EReal.coe_mul, Ideal.exp_coe]
  norm_num

/-- Column `j` of the projections of batch `b` at position `n`, a real number. -/
def projAt (X : Vec Ideal S8192x12288 .bf16) (b n j : ℕ) : ℝ :=
  if h : b * 4096 + n < 8192 ∧ j < 12288 then (X (ix2 ⟨b * 4096 + n, h.1⟩ ⟨j, h.2⟩)).toReal else 0
theorem projAt_eq (X : Vec Ideal S8192x12288 .bf16) (hX : ∀ i, X i = ((X i).toReal : EReal)) (b n j r : ℕ) (hr : r < 8192) (hj : j < 12288) (h : r = b * 4096 + n) :
    X (ix2 ⟨r, hr⟩ ⟨j, hj⟩) = (projAt X b n j : EReal) := by
  subst h
  rw [projAt, dif_pos ⟨hr, hj⟩]; exact hX _
end Cert.ReferenceIdeal.Ret
end
-- ==== Proof.KTab.lean ====
/- The arrays the retention kernel's region finds: the tables the host computed, at an index. -/
module

public import proofs.«01_k».proof.Proof.Gen.KernelIdeal.Value
public import proofs.«01_k».proof.Proof.RetTab
public import Idealize.ShloMosaic.Lib.StableHlo.RunRead
public import Idealize.ShloMosaic.Lib.StableHlo.ReadAt

@[expose] public section
noncomputable section
open Idealize.ShloMosaic Idealize.ShloMosaic.TcCoe Idealize.SL.Sem Idealize.ShloMosaic.StableHlo
namespace Cert.KernelIdeal.Ret
open Cert.KernelIdeal Cert.KernelIdeal.Gen RetM
open Cert.ReferenceIdeal.Ret (ct sn lg ct lg_eq cos_eq sin_eq lit_zero lit_one lit_255 lit_256 nat_val mask_val)
open Cert.ReferenceIdeal.Step (K_main_v22 K_main_v23 K_main_v61)
variable (m : (ℓ : Loc nD τ sig) → Buf (Elt Ideal) ℓ) (c : Dev nD)

set_option maxRecDepth 65536
set_option maxHeartbeats 4000000

theorem V_v11 : (V m c main_v11 : Vec Ideal S4096x128 .f32) = K_main_v22 (F := Ideal) := by
  simp only [V, List.flatten_cons, List.flatten_nil, List.append_nil, List.cons_append, List.nil_append, hostOps0, hostOps0_1, hostOps0_2, hostOps0_3, hostOps0_4]
  after_reads_simp
  rfl
theorem V_v12 : (V m c main_v12 : Vec Ideal S4096x128 .f32) = K_main_v23 (F := Ideal) := by
  simp only [V, List.flatten_cons, List.flatten_nil, List.append_nil, List.cons_append, List.nil_append, hostOps0, hostOps0_1, hostOps0_2, hostOps0_3, hostOps0_4]
  after_reads_simp
  rfl
/-- The tables for chunks of 256, from the decay rates. -/
abbrev posn : Vec Ideal S256 .f32 := sitofp (F := Ideal) .f32 (iotaInDim S256 32 0)
abbrev diff : Vec Ideal S256x256 .f32 := subf (F := Ideal) (φ := .f32) (broadcastInDim S256x256 ![0, 1] bcast_S256x1_S256x256_0_1 (broadcastInDim S256x1 ![0] bcast_S256_S256x1_0 posn))
  (broadcastInDim S256x256 ![0, 1] bcast_S1x256_S256x256_0_1 (broadcastInDim S1x256 ![1] bcast_S256_S1x256_1 posn))
abbrev zero2 : Vec Ideal S256x256 .f32 := broadcastInDim S256x256 ![] bcast_S_S256x256 (constant (F := Ideal) S_ .f32 0x00000000#32)

theorem V_v60 : (V m c main_v60 : Vec Ideal S8 .f32) = Host.exp (F := Ideal) (φ := .f32) (mulf (F := Ideal) (φ := .f32) (broadcastInDim S8 ![] bcast_S_S8 (constant (F := Ideal) S_ .f32 0x43800000#32)) (K_main_v61 (F := Ideal))) := by
  simp only [V, List.flatten_cons, List.flatten_nil, List.append_nil, List.cons_append, List.nil_append, hostOps0, hostOps0_1, hostOps0_2, hostOps0_3, hostOps0_4]
  after_reads_simp
  rfl
theorem V_v37 : (V m c main_v37 : Vec Ideal S8x256x256 .f32) = select (broadcastInDim S8x256x256 ![1, 2] bcast_S256x256_S8x256x256_1_2 (cmpf (F := Ideal) (φ := .f32) .oge diff zero2))
    (Host.exp (F := Ideal) (φ := .f32) (mulf (F := Ideal) (φ := .f32) (broadcastInDim S8x256x256 ![0, 1, 2] bcast_S1x256x256_S8x256x256_0_1_2 (broadcastInDim S1x256x256 ![1, 2] bcast_S256x256_S1x256x256_1_2 (maximumf (F := Ideal) (φ := .f32) diff zero2)))
      (broadcastInDim S8x256x256 ![0, 1, 2] bcast_S8x1x1_S8x256x256_0_1_2 (broadcastInDim S8x1x1 ![0] bcast_S8_S8x1x1_0 (K_main_v61 (F := Ideal))))))
    (broadcastInDim S8x256x256 ![] bcast_S_S8x256x256 (constant (F := Ideal) S_ .f32 0x00000000#32)) := by
  simp only [V, List.flatten_cons, List.flatten_nil, List.append_nil, List.cons_append, List.nil_append, hostOps0, hostOps0_1, hostOps0_2, hostOps0_3, hostOps0_4]
  after_reads_simp
  simp -implicitDefEqProofs only [StableHlo.TRef.toBuf, StableHlo.TRef.ofBuf, cast_eq, id]
  unfold K_main_v61 Cert.ReferenceIdeal.Step.K_main_v60 Cert.ReferenceIdeal.Step.K_main_v59
  rfl
theorem V_v55 : (V m c main_v55 : Vec Ideal S8x256x128 .f32) = broadcastInDim S8x256x128 ![0, 1, 2] bcast_S8x256x1_S8x256x128_0_1_2 (broadcastInDim S8x256x1 ![0, 1] bcast_S8x256_S8x256x1_0_1
    (Host.exp (F := Ideal) (φ := .f32) (mulf (F := Ideal) (φ := .f32) (broadcastInDim S8x256 ![0, 1] bcast_S1x256_S8x256_0_1 (addf (F := Ideal) (φ := .f32) (broadcastInDim S1x256 ![1] bcast_S256_S1x256_1 posn) (broadcastInDim S1x256 ![] bcast_S_S1x256 (constant (F := Ideal) S_ .f32 0x3F800000#32))))
      (broadcastInDim S8x256 ![0, 1] bcast_S8x1_S8x256_0_1 (broadcastInDim S8x1 ![0] bcast_S8_S8x1_0 (K_main_v61 (F := Ideal))))))) := by
  simp only [V, List.flatten_cons, List.flatten_nil, List.append_nil, List.cons_append, List.nil_append, hostOps0, hostOps0_1, hostOps0_2, hostOps0_3, hostOps0_4]
  after_reads_simp
  rfl
theorem V_v57 : (V m c main_v57 : Vec Ideal S8x256x128 .f32) = broadcastInDim S8x256x128 ![0, 1, 2] bcast_S8x256x1_S8x256x128_0_1_2 (broadcastInDim S8x256x1 ![0, 1] bcast_S8x256_S8x256x1_0_1
    (Host.exp (F := Ideal) (φ := .f32) (mulf (F := Ideal) (φ := .f32) (broadcastInDim S8x256 ![0, 1] bcast_S1x256_S8x256_0_1 (subf (F := Ideal) (φ := .f32) (broadcastInDim S1x256 ![] bcast_S_S1x256 (constant (F := Ideal) S_ .f32 0x437F0000#32)) (broadcastInDim S1x256 ![1] bcast_S256_S1x256_1 posn)))
      (broadcastInDim S8x256 ![0, 1] bcast_S8x1_S8x256_0_1 (broadcastInDim S8x1 ![0] bcast_S8_S8x1_0 (K_main_v61 (F := Ideal))))))) := by
  simp only [V, List.flatten_cons, List.flatten_nil, List.append_nil, List.cons_append, List.nil_append, hostOps0, hostOps0_1, hostOps0_2, hostOps0_3, hostOps0_4]
  after_reads_simp
  rfl

theorem cosT (n : Fin 4096) (d : Fin 128) : (V m c main_v11 : Vec Ideal S4096x128 .f32) (ix2 n d) = (ct n d : EReal) := by
  rw [V_v11]; exact cos_eq n d
theorem sinT (n : Fin 4096) (d : Fin 128) : (V m c main_v12 : Vec Ideal S4096x128 .f32) (ix2 n d) = (sn n d : EReal) := by
  rw [V_v12]; exact sin_eq n d
theorem cdT (h : Fin 8) : (V m c main_v60 : Vec Ideal S8 .f32) (ix1 h) = (Real.exp (((256 : ℕ) : ℝ) * lg h) : EReal) := by
  rw [V_v60]
  have hl := lg_eq h
  pointwise
  rw [hl, lit_256, ← EReal.coe_mul, Ideal.exp_coe]
  norm_num
theorem dmatT (h : Fin 8) (r k : Fin 256) : (V m c main_v37 : Vec Ideal S8x256x256 .f32) (ix3 h r k) = (dmask (lg h) r k : EReal) := by
  rw [V_v37]
  have hl := lg_eq h
  pointwise [diff, zero2, posn]
  rw [hl, nat_val _ (by omega), nat_val _ (by omega)]
  exact mask_val _ _ _
theorem xiT (h : Fin 8) (r : Fin 256) (l : Fin 128) : (V m c main_v55 : Vec Ideal S8x256x128 .f32) (ix3 h r l) = (Real.exp ((((r : ℕ) : ℝ) + 1) * lg h) : EReal) := by
  rw [V_v55]
  have hl := lg_eq h
  pointwise [posn]
  rw [hl, nat_val _ (by omega), ← EReal.coe_one, ← EReal.coe_add, ← EReal.coe_mul, Ideal.exp_coe]
theorem zetaT (h : Fin 8) (r : Fin 256) (l : Fin 128) : (V m c main_v57 : Vec Ideal S8x256x128 .f32) (ix3 h r l) = (Real.exp ((((256 : ℕ) : ℝ) - 1 - (r : ℕ)) * lg h) : EReal) := by
  rw [V_v57]
  have hl := lg_eq h
  pointwise [posn]
  rw [hl, lit_255, nat_val _ (by omega), ← EReal.coe_sub, ← EReal.coe_mul, Ideal.exp_coe]
  norm_num
end Cert.KernelIdeal.Ret
end
-- ==== Proof.KOpen.lean ====
/- What one grid point of the retention stores, opened: for each of the eight heads, its new state and its rows of the output as one
   function of the loaded blocks, the same for every head. -/
module

public import proofs.«01_k».proof.Proof.Gen.KernelIdeal.Value
public import Idealize.ShloMosaic.Lib.Tactic
public import Idealize.ShloMosaic.Lib.Pipeline.Value
public import Idealize.ShloMosaic.Lib.Pipeline.ReadBack

@[expose] public section
set_option maxRecDepth 16384
noncomputable section
open Idealize.ShloMosaic Idealize.ShloMosaic.TcCoe Idealize.SL.Sem
namespace Cert.KernelIdeal.Ret
open Cert.KernelIdeal Cert.KernelIdeal.Gen
variable {F : FTy → Type} [FloatOps F]

/-- A head's new state: the decayed state plus the keys (rotated, weighted) times the values. -/
def hSt (c s : Vec F S256x128 .f32) (k : Vec F S256x256 .bf16) (v : Vec F S256x512 .bf16) (st : Vec F S1x256x512 .f32)
    (z : Vec F S1x256x128 .f32) (cd : Elt F .f32) : FVec F S1x256x512 .f32 :=
  k0_pay9 (k0_pay5 c s k) v st z cd

/-- A head's rows before the gate: the masked scores times the values, plus the carried state's part, normalised. -/
def hNorm (c s : Vec F S256x128 .f32) (q k : Vec F S256x256 .bf16) (v : Vec F S256x512 .bf16) (st : Vec F S1x256x512 .f32)
    (dm : Vec F S1x256x256 .f32) (xi : Vec F S1x256x128 .f32) : FVec F S256x512 .f32 :=
  k0_pay10 v (k0_pay6 c s q) (k0_pay7 c s q k dm) (constant S256x512 FTy.f32 0#32) st xi

/-- A head's rows of the output. -/
def hOut (c s : Vec F S256x128 .f32) (q k : Vec F S256x256 .bf16) (v g : Vec F S256x512 .bf16) (st : Vec F S1x256x512 .f32)
    (dm : Vec F S1x256x256 .f32) (xi : Vec F S1x256x128 .f32) : FVec F S256x512 .bf16 :=
  k0_pay11 (hNorm c s q k v st dm xi) g

theorem hSt_0 (c s : Vec F S256x128 .f32) (k : Vec F S256x256 .bf16) (v : Vec F S256x512 .bf16) (st : Vec F S1x256x512 .f32) (z : Vec F S1x256x128 .f32) (cd : Elt F .f32) :
    k0_pay9 (k0_pay5 c s k) v st z cd = hSt c s k v st z cd := rfl
theorem hOut_0 (c s : Vec F S256x128 .f32) (q k : Vec F S256x256 .bf16) (v g : Vec F S256x512 .bf16) (st : Vec F S1x256x512 .f32) (dm : Vec F S1x256x256 .f32) (xi : Vec F S1x256x128 .f32) :
    k0_pay11 (k0_pay10 v (k0_pay6 c s q) (k0_pay7 c s q k dm) (constant S256x512 FTy.f32 0#32) st xi) g = hOut c s q k v g st dm xi := rfl
theorem hSt_1 (c s : Vec F S256x128 .f32) (k : Vec F S256x256 .bf16) (v : Vec F S256x512 .bf16) (st : Vec F S1x256x512 .f32) (z : Vec F S1x256x128 .f32) (cd : Elt F .f32) :
    k0_pay16 (k0_pay12 (k0_pay3 c) (k0_pay4 s) k) v st z cd = hSt c s k v st z cd := rfl
theorem hOut_1 (c s : Vec F S256x128 .f32) (q k : Vec F S256x256 .bf16) (v g : Vec F S256x512 .bf16) (st : Vec F S1x256x512 .f32) (dm : Vec F S1x256x256 .f32) (xi : Vec F S1x256x128 .f32) :
    k0_pay18 (k0_pay17 v (k0_pay13 (k0_pay3 c) (k0_pay4 s) q) (k0_pay14 (k0_pay3 c) (k0_pay4 s) q k dm) (constant S256x512 FTy.f32 0#32) st xi) g = hOut c s q k v g st dm xi := rfl
theorem hSt_2 (c s : Vec F S256x128 .f32) (k : Vec F S256x256 .bf16) (v : Vec F S256x512 .bf16) (st : Vec F S1x256x512 .f32) (z : Vec F S1x256x128 .f32) (cd : Elt F .f32) :
    k0_pay23 (k0_pay19 (k0_pay3 c) (k0_pay4 s) k) v st z cd = hSt c s k v st z cd := rfl
theorem hOut_2 (c s : Vec F S256x128 .f32) (q k : Vec F S256x256 .bf16) (v g : Vec F S256x512 .bf16) (st : Vec F S1x256x512 .f32) (dm : Vec F S1x256x256 .f32) (xi : Vec F S1x256x128 .f32) :
    k0_pay25 (k0_pay24 v (k0_pay20 (k0_pay3 c) (k0_pay4 s) q) (k0_pay21 (k0_pay3 c) (k0_pay4 s) q k dm) (constant S256x512 FTy.f32 0#32) st xi) g = hOut c s q k v g st dm xi := rfl
theorem hSt_3 (c s : Vec F S256x128 .f32) (k : Vec F S256x256 .bf16) (v : Vec F S256x512 .bf16) (st : Vec F S1x256x512 .f32) (z : Vec F S1x256x128 .f32) (cd : Elt F .f32) :
    k0_pay30 (k0_pay26 (k0_pay3 c) (k0_pay4 s) k) v st z cd = hSt c s k v st z cd := rfl
theorem hOut_3 (c s : Vec F S256x128 .f32) (q k : Vec F S256x256 .bf16) (v g : Vec F S256x512 .bf16) (st : Vec F S1x256x512 .f32) (dm : Vec F S1x256x256 .f32) (xi : Vec F S1x256x128 .f32) :
    k0_pay32 (k0_pay31 v (k0_pay27 (k0_pay3 c) (k0_pay4 s) q) (k0_pay28 (k0_pay3 c) (k0_pay4 s) q k dm) (constant S256x512 FTy.f32 0#32) st xi) g = hOut c s q k v g st dm xi := rfl
theorem hSt_4 (c s : Vec F S256x128 .f32) (k : Vec F S256x256 .bf16) (v : Vec F S256x512 .bf16) (st : Vec F S1x256x512 .f32) (z : Vec F S1x256x128 .f32) (cd : Elt F .f32) :
    k0_pay37 (k0_pay33 (k0_pay3 c) (k0_pay4 s) k) v st z cd = hSt c s k v st z cd := rfl
theorem hOut_4 (c s : Vec F S256x128 .f32) (q k : Vec F S256x256 .bf16) (v g : Vec F S256x512 .bf16) (st : Vec F S1x256x512 .f32) (dm : Vec F S1x256x256 .f32) (xi : Vec F S1x256x128 .f32) :
    k0_pay39 (k0_pay38 v (k0_pay34 (k0_pay3 c) (k0_pay4 s) q) (k0_pay35 (k0_pay3 c) (k0_pay4 s) q k dm) (constant S256x512 FTy.f32 0#32) st xi) g = hOut c s q k v g st dm xi := rfl
theorem hSt_5 (c s : Vec F S256x128 .f32) (k : Vec F S256x256 .bf16) (v : Vec F S256x512 .bf16) (st : Vec F S1x256x512 .f32) (z : Vec F S1x256x128 .f32) (cd : Elt F .f32) :
    k0_pay44 (k0_pay40 (k0_pay3 c) (k0_pay4 s) k) v st z cd = hSt c s k v st z cd := rfl
theorem hOut_5 (c s : Vec F S256x128 .f32) (q k : Vec F S256x256 .bf16) (v g : Vec F S256x512 .bf16) (st : Vec F S1x256x512 .f32) (dm : Vec F S1x256x256 .f32) (xi : Vec F S1x256x128 .f32) :
    k0_pay46 (k0_pay45 v (k0_pay41 (k0_pay3 c) (k0_pay4 s) q) (k0_pay42 (k0_pay3 c) (k0_pay4 s) q k dm) (constant S256x512 FTy.f32 0#32) st xi) g = hOut c s q k v g st dm xi := rfl
theorem hSt_6 (c s : Vec F S256x128 .f32) (k : Vec F S256x256 .bf16) (v : Vec F S256x512 .bf16) (st : Vec F S1x256x512 .f32) (z : Vec F S1x256x128 .f32) (cd : Elt F .f32) :
    k0_pay51 (k0_pay47 (k0_pay3 c) (k0_pay4 s) k) v st z cd = hSt c s k v st z cd := rfl
theorem hOut_6 (c s : Vec F S256x128 .f32) (q k : Vec F S256x256 .bf16) (v g : Vec F S256x512 .bf16) (st : Vec F S1x256x512 .f32) (dm : Vec F S1x256x256 .f32) (xi : Vec F S1x256x128 .f32) :
    k0_pay53 (k0_pay52 v (k0_pay48 (k0_pay3 c) (k0_pay4 s) q) (k0_pay49 (k0_pay3 c) (k0_pay4 s) q k dm) (constant S256x512 FTy.f32 0#32) st xi) g = hOut c s q k v g st dm xi := rfl
theorem hSt_7 (c s : Vec F S256x128 .f32) (k : Vec F S256x256 .bf16) (v : Vec F S256x512 .bf16) (st : Vec F S1x256x512 .f32) (z : Vec F S1x256x128 .f32) (cd : Elt F .f32) :
    k0_pay58 (k0_pay54 (k0_pay3 c) (k0_pay4 s) k) v st z cd = hSt c s k v st z cd := rfl
theorem hOut_7 (c s : Vec F S256x128 .f32) (q k : Vec F S256x256 .bf16) (v g : Vec F S256x512 .bf16) (st : Vec F S1x256x512 .f32) (dm : Vec F S1x256x256 .f32) (xi : Vec F S1x256x128 .f32) :
    k0_pay1 (k0_pay59 v (k0_pay55 (k0_pay3 c) (k0_pay4 s) q) (k0_pay56 (k0_pay3 c) (k0_pay4 s) q k dm) (constant S256x512 FTy.f32 0#32) st xi) g = hOut c s q k v g st dm xi := rfl

/-- The stores into the carried state, the last first. -/
def stPieces (x0 : Vec F S8 .f32) (x2 : Vec F S256x2048 .bf16) (x3 : Vec F S256x4096 .bf16) (x5 x6 : Vec F S256x128 .f32) (x9 : Vec F S8x256x128 .f32) (xs : Vec F S8x256x512 .f32) : List (View.Piece (Elt F) S8x256x512 .f32) :=
  [⟨Rect.unit ![7, 0, 0] ![1, 256, 512] inb_S8x256x512_S1x256x512_7_0_0,
      hSt (View.ld x5 (Rect.unit ![0, 0] ![256, 128] inb_S256x128_S256x128_0_0)) (View.ld x6 (Rect.unit ![0, 0] ![256, 128] inb_S256x128_S256x128_0_0))
        (View.ld x2 (Rect.unit ![0, 1792] ![256, 256] inb_S256x2048_S256x256_0_1792)) (View.ld x3 (Rect.unit ![0, 3584] ![256, 512] inb_S256x4096_S256x512_0_3584)) (View.ld xs (Rect.unit ![7, 0, 0] ![1, 256, 512] inb_S8x256x512_S1x256x512_7_0_0)) (View.ld x9 (Rect.unit ![7, 0, 0] ![1, 256, 128] inb_S8x256x128_S1x256x128_7_0_0)) (View.ld x0 (Rect.unit ![7] ![1] inb_S8_S1_7) (Shape.Idx.first (by decide)))⟩,
   ⟨Rect.unit ![6, 0, 0] ![1, 256, 512] inb_S8x256x512_S1x256x512_6_0_0,
      hSt (View.ld x5 (Rect.unit ![0, 0] ![256, 128] inb_S256x128_S256x128_0_0)) (View.ld x6 (Rect.unit ![0, 0] ![256, 128] inb_S256x128_S256x128_0_0))
        (View.ld x2 (Rect.unit ![0, 1536] ![256, 256] inb_S256x2048_S256x256_0_1536)) (View.ld x3 (Rect.unit ![0, 3072] ![256, 512] inb_S256x4096_S256x512_0_3072)) (View.ld xs (Rect.unit ![6, 0, 0] ![1, 256, 512] inb_S8x256x512_S1x256x512_6_0_0)) (View.ld x9 (Rect.unit ![6, 0, 0] ![1, 256, 128] inb_S8x256x128_S1x256x128_6_0_0)) (View.ld x0 (Rect.unit ![6] ![1] inb_S8_S1_6) (Shape.Idx.first (by decide)))⟩,
   ⟨Rect.unit ![5, 0, 0] ![1, 256, 512] inb_S8x256x512_S1x256x512_5_0_0,
      hSt (View.ld x5 (Rect.unit ![0, 0] ![256, 128] inb_S256x128_S256x128_0_0)) (View.ld x6 (Rect.unit ![0, 0] ![256, 128] inb_S256x128_S256x128_0_0))
        (View.ld x2 (Rect.unit ![0, 1280] ![256, 256] inb_S256x2048_S256x256_0_1280)) (View.ld x3 (Rect.unit ![0, 2560] ![256, 512] inb_S256x4096_S256x512_0_2560)) (View.ld xs (Rect.unit ![5, 0, 0] ![1, 256, 512] inb_S8x256x512_S1x256x512_5_0_0)) (View.ld x9 (Rect.unit ![5, 0, 0] ![1, 256, 128] inb_S8x256x128_S1x256x128_5_0_0)) (View.ld x0 (Rect.unit ![5] ![1] inb_S8_S1_5) (Shape.Idx.first (by decide)))⟩,
   ⟨Rect.unit ![4, 0, 0] ![1, 256, 512] inb_S8x256x512_S1x256x512_4_0_0,
      hSt (View.ld x5 (Rect.unit ![0, 0] ![256, 128] inb_S256x128_S256x128_0_0)) (View.ld x6 (Rect.unit ![0, 0] ![256, 128] inb_S256x128_S256x128_0_0))
        (View.ld x2 (Rect.unit ![0, 1024] ![256, 256] inb_S256x2048_S256x256_0_1024)) (View.ld x3 (Rect.unit ![0, 2048] ![256, 512] inb_S256x4096_S256x512_0_2048)) (View.ld xs (Rect.unit ![4, 0, 0] ![1, 256, 512] inb_S8x256x512_S1x256x512_4_0_0)) (View.ld x9 (Rect.unit ![4, 0, 0] ![1, 256, 128] inb_S8x256x128_S1x256x128_4_0_0)) (View.ld x0 (Rect.unit ![4] ![1] inb_S8_S1_4) (Shape.Idx.first (by decide)))⟩,
   ⟨Rect.unit ![3, 0, 0] ![1, 256, 512] inb_S8x256x512_S1x256x512_3_0_0,
      hSt (View.ld x5 (Rect.unit ![0, 0] ![256, 128] inb_S256x128_S256x128_0_0)) (View.ld x6 (Rect.unit ![0, 0] ![256, 128] inb_S256x128_S256x128_0_0))
        (View.ld x2 (Rect.unit ![0, 768] ![256, 256] inb_S256x2048_S256x256_0_768)) (View.ld x3 (Rect.unit ![0, 1536] ![256, 512] inb_S256x4096_S256x512_0_1536)) (View.ld xs (Rect.unit ![3, 0, 0] ![1, 256, 512] inb_S8x256x512_S1x256x512_3_0_0)) (View.ld x9 (Rect.unit ![3, 0, 0] ![1, 256, 128] inb_S8x256x128_S1x256x128_3_0_0)) (View.ld x0 (Rect.unit ![3] ![1] inb_S8_S1_3) (Shape.Idx.first (by decide)))⟩,
   ⟨Rect.unit ![2, 0, 0] ![1, 256, 512] inb_S8x256x512_S1x256x512_2_0_0,
      hSt (View.ld x5 (Rect.unit ![0, 0] ![256, 128] inb_S256x128_S256x128_0_0)) (View.ld x6 (Rect.unit ![0, 0] ![256, 128] inb_S256x128_S256x128_0_0))
        (View.ld x2 (Rect.unit ![0, 512] ![256, 256] inb_S256x2048_S256x256_0_512)) (View.ld x3 (Rect.unit ![0, 1024] ![256, 512] inb_S256x4096_S256x512_0_1024)) (View.ld xs (Rect.unit ![2, 0, 0] ![1, 256, 512] inb_S8x256x512_S1x256x512_2_0_0)) (View.ld x9 (Rect.unit ![2, 0, 0] ![1, 256, 128] inb_S8x256x128_S1x256x128_2_0_0)) (View.ld x0 (Rect.unit ![2] ![1] inb_S8_S1_2) (Shape.Idx.first (by decide)))⟩,
   ⟨Rect.unit ![1, 0, 0] ![1, 256, 512] inb_S8x256x512_S1x256x512_1_0_0,
      hSt (View.ld x5 (Rect.unit ![0, 0] ![256, 128] inb_S256x128_S256x128_0_0)) (View.ld x6 (Rect.unit ![0, 0] ![256, 128] inb_S256x128_S256x128_0_0))
        (View.ld x2 (Rect.unit ![0, 256] ![256, 256] inb_S256x2048_S256x256_0_256)) (View.ld x3 (Rect.unit ![0, 512] ![256, 512] inb_S256x4096_S256x512_0_512)) (View.ld xs (Rect.unit ![1, 0, 0] ![1, 256, 512] inb_S8x256x512_S1x256x512_1_0_0)) (View.ld x9 (Rect.unit ![1, 0, 0] ![1, 256, 128] inb_S8x256x128_S1x256x128_1_0_0)) (View.ld x0 (Rect.unit ![1] ![1] inb_S8_S1_1) (Shape.Idx.first (by decide)))⟩,
   ⟨Rect.unit ![0, 0, 0] ![1, 256, 512] inb_S8x256x512_S1x256x512_0_0_0,
      hSt (View.ld x5 (Rect.unit ![0, 0] ![256, 128] inb_S256x128_S256x128_0_0)) (View.ld x6 (Rect.unit ![0, 0] ![256, 128] inb_S256x128_S256x128_0_0))
        (View.ld x2 (Rect.unit ![0, 0] ![256, 256] inb_S256x2048_S256x256_0_0)) (View.ld x3 (Rect.unit ![0, 0] ![256, 512] inb_S256x4096_S256x512_0_0)) (View.ld xs (Rect.unit ![0, 0, 0] ![1, 256, 512] inb_S8x256x512_S1x256x512_0_0_0)) (View.ld x9 (Rect.unit ![0, 0, 0] ![1, 256, 128] inb_S8x256x128_S1x256x128_0_0_0)) (View.ld x0 (Rect.unit ![0] ![1] inb_S8_S1_0) (Shape.Idx.first (by decide)))⟩]

/-- The stores into the output block, the last first. -/
def outPieces (x1 x2 : Vec F S256x2048 .bf16) (x3 x4 : Vec F S256x4096 .bf16) (x5 x6 : Vec F S256x128 .f32) (x7 : Vec F S8x256x256 .f32) (x8 : Vec F S8x256x128 .f32) (xs : Vec F S8x256x512 .f32) : List (View.Piece (Elt F) S256x4096 .bf16) :=
  [⟨Rect.unit ![0, 3584] ![256, 512] inb_S256x4096_S256x512_0_3584,
      hOut (View.ld x5 (Rect.unit ![0, 0] ![256, 128] inb_S256x128_S256x128_0_0)) (View.ld x6 (Rect.unit ![0, 0] ![256, 128] inb_S256x128_S256x128_0_0))
        (View.ld x1 (Rect.unit ![0, 1792] ![256, 256] inb_S256x2048_S256x256_0_1792)) (View.ld x2 (Rect.unit ![0, 1792] ![256, 256] inb_S256x2048_S256x256_0_1792)) (View.ld x3 (Rect.unit ![0, 3584] ![256, 512] inb_S256x4096_S256x512_0_3584)) (View.ld x4 (Rect.unit ![0, 3584] ![256, 512] inb_S256x4096_S256x512_0_3584)) (View.ld xs (Rect.unit ![7, 0, 0] ![1, 256, 512] inb_S8x256x512_S1x256x512_7_0_0)) (View.ld x7 (Rect.unit ![7, 0, 0] ![1, 256, 256] inb_S8x256x256_S1x256x256_7_0_0)) (View.ld x8 (Rect.unit ![7, 0, 0] ![1, 256, 128] inb_S8x256x128_S1x256x128_7_0_0))⟩,
   ⟨Rect.unit ![0, 3072] ![256, 512] inb_S256x4096_S256x512_0_3072,
      hOut (View.ld x5 (Rect.unit ![0, 0] ![256, 128] inb_S256x128_S256x128_0_0)) (View.ld x6 (Rect.unit ![0, 0] ![256, 128] inb_S256x128_S256x128_0_0))
        (View.ld x1 (Rect.unit ![0, 1536] ![256, 256] inb_S256x2048_S256x256_0_1536)) (View.ld x2 (Rect.unit ![0, 1536] ![256, 256] inb_S256x2048_S256x256_0_1536)) (View.ld x3 (Rect.unit ![0, 3072] ![256, 512] inb_S256x4096_S256x512_0_3072)) (View.ld x4 (Rect.unit ![0, 3072] ![256, 512] inb_S256x4096_S256x512_0_3072)) (View.ld xs (Rect.unit ![6, 0, 0] ![1, 256, 512] inb_S8x256x512_S1x256x512_6_0_0)) (View.ld x7 (Rect.unit ![6, 0, 0] ![1, 256, 256] inb_S8x256x256_S1x256x256_6_0_0)) (View.ld x8 (Rect.unit ![6, 0, 0] ![1, 256, 128] inb_S8x256x128_S1x256x128_6_0_0))⟩,
   ⟨Rect.unit ![0, 2560] ![256, 512] inb_S256x4096_S256x512_0_2560,
      hOut (View.ld x5 (Rect.unit ![0, 0] ![256, 128] inb_S256x128_S256x128_0_0)) (View.ld x6 (Rect.unit ![0, 0] ![256, 128] inb_S256x128_S256x128_0_0))
        (View.ld x1 (Rect.unit ![0, 1280] ![256, 256] inb_S256x2048_S256x256_0_1280)) (View.ld x2 (Rect.unit ![0, 1280] ![256, 256] inb_S256x2048_S256x256_0_1280)) (View.ld x3 (Rect.unit ![0, 2560] ![256, 512] inb_S256x4096_S256x512_0_2560)) (View.ld x4 (Rect.unit ![0, 2560] ![256, 512] inb_S256x4096_S256x512_0_2560)) (View.ld xs (Rect.unit ![5, 0, 0] ![1, 256, 512] inb_S8x256x512_S1x256x512_5_0_0)) (View.ld x7 (Rect.unit ![5, 0, 0] ![1, 256, 256] inb_S8x256x256_S1x256x256_5_0_0)) (View.ld x8 (Rect.unit ![5, 0, 0] ![1, 256, 128] inb_S8x256x128_S1x256x128_5_0_0))⟩,
   ⟨Rect.unit ![0, 2048] ![256, 512] inb_S256x4096_S256x512_0_2048,
      hOut (View.ld x5 (Rect.unit ![0, 0] ![256, 128] inb_S256x128_S256x128_0_0)) (View.ld x6 (Rect.unit ![0, 0] ![256, 128] inb_S256x128_S256x128_0_0))
        (View.ld x1 (Rect.unit ![0, 1024] ![256, 256] inb_S256x2048_S256x256_0_1024)) (View.ld x2 (Rect.unit ![0, 1024] ![256, 256] inb_S256x2048_S256x256_0_1024)) (View.ld x3 (Rect.unit ![0, 2048] ![256, 512] inb_S256x4096_S256x512_0_2048)) (View.ld x4 (Rect.unit ![0, 2048] ![256, 512] inb_S256x4096_S256x512_0_2048)) (View.ld xs (Rect.unit ![4, 0, 0] ![1, 256, 512] inb_S8x256x512_S1x256x512_4_0_0)) (View.ld x7 (Rect.unit ![4, 0, 0] ![1, 256, 256] inb_S8x256x256_S1x256x256_4_0_0)) (View.ld x8 (Rect.unit ![4, 0, 0] ![1, 256, 128] inb_S8x256x128_S1x256x128_4_0_0))⟩,
   ⟨Rect.unit ![0, 1536] ![256, 512] inb_S256x4096_S256x512_0_1536,
      hOut (View.ld x5 (Rect.unit ![0, 0] ![256, 128] inb_S256x128_S256x128_0_0)) (View.ld x6 (Rect.unit ![0, 0] ![256, 128] inb_S256x128_S256x128_0_0))
        (View.ld x1 (Rect.unit ![0, 768] ![256, 256] inb_S256x2048_S256x256_0_768)) (View.ld x2 (Rect.unit ![0, 768] ![256, 256] inb_S256x2048_S256x256_0_768)) (View.ld x3 (Rect.unit ![0, 1536] ![256, 512] inb_S256x4096_S256x512_0_1536)) (View.ld x4 (Rect.unit ![0, 1536] ![256, 512] inb_S256x4096_S256x512_0_1536)) (View.ld xs (Rect.unit ![3, 0, 0] ![1, 256, 512] inb_S8x256x512_S1x256x512_3_0_0)) (View.ld x7 (Rect.unit ![3, 0, 0] ![1, 256, 256] inb_S8x256x256_S1x256x256_3_0_0)) (View.ld x8 (Rect.unit ![3, 0, 0] ![1, 256, 128] inb_S8x256x128_S1x256x128_3_0_0))⟩,
   ⟨Rect.unit ![0, 1024] ![256, 512] inb_S256x4096_S256x512_0_1024,
      hOut (View.ld x5 (Rect.unit ![0, 0] ![256, 128] inb_S256x128_S256x128_0_0)) (View.ld x6 (Rect.unit ![0, 0] ![256, 128] inb_S256x128_S256x128_0_0))
        (View.ld x1 (Rect.unit ![0, 512] ![256, 256] inb_S256x2048_S256x256_0_512)) (View.ld x2 (Rect.unit ![0, 512] ![256, 256] inb_S256x2048_S256x256_0_512)) (View.ld x3 (Rect.unit ![0, 1024] ![256, 512] inb_S256x4096_S256x512_0_1024)) (View.ld x4 (Rect.unit ![0, 1024] ![256, 512] inb_S256x4096_S256x512_0_1024)) (View.ld xs (Rect.unit ![2, 0, 0] ![1, 256, 512] inb_S8x256x512_S1x256x512_2_0_0)) (View.ld x7 (Rect.unit ![2, 0, 0] ![1, 256, 256] inb_S8x256x256_S1x256x256_2_0_0)) (View.ld x8 (Rect.unit ![2, 0, 0] ![1, 256, 128] inb_S8x256x128_S1x256x128_2_0_0))⟩,
   ⟨Rect.unit ![0, 512] ![256, 512] inb_S256x4096_S256x512_0_512,
      hOut (View.ld x5 (Rect.unit ![0, 0] ![256, 128] inb_S256x128_S256x128_0_0)) (View.ld x6 (Rect.unit ![0, 0] ![256, 128] inb_S256x128_S256x128_0_0))
        (View.ld x1 (Rect.unit ![0, 256] ![256, 256] inb_S256x2048_S256x256_0_256)) (View.ld x2 (Rect.unit ![0, 256] ![256, 256] inb_S256x2048_S256x256_0_256)) (View.ld x3 (Rect.unit ![0, 512] ![256, 512] inb_S256x4096_S256x512_0_512)) (View.ld x4 (Rect.unit ![0, 512] ![256, 512] inb_S256x4096_S256x512_0_512)) (View.ld xs (Rect.unit ![1, 0, 0] ![1, 256, 512] inb_S8x256x512_S1x256x512_1_0_0)) (View.ld x7 (Rect.unit ![1, 0, 0] ![1, 256, 256] inb_S8x256x256_S1x256x256_1_0_0)) (View.ld x8 (Rect.unit ![1, 0, 0] ![1, 256, 128] inb_S8x256x128_S1x256x128_1_0_0))⟩,
   ⟨Rect.unit ![0, 0] ![256, 512] inb_S256x4096_S256x512_0_0,
      hOut (View.ld x5 (Rect.unit ![0, 0] ![256, 128] inb_S256x128_S256x128_0_0)) (View.ld x6 (Rect.unit ![0, 0] ![256, 128] inb_S256x128_S256x128_0_0))
        (View.ld x1 (Rect.unit ![0, 0] ![256, 256] inb_S256x2048_S256x256_0_0)) (View.ld x2 (Rect.unit ![0, 0] ![256, 256] inb_S256x2048_S256x256_0_0)) (View.ld x3 (Rect.unit ![0, 0] ![256, 512] inb_S256x4096_S256x512_0_0)) (View.ld x4 (Rect.unit ![0, 0] ![256, 512] inb_S256x4096_S256x512_0_0)) (View.ld xs (Rect.unit ![0, 0, 0] ![1, 256, 512] inb_S8x256x512_S1x256x512_0_0_0)) (View.ld x7 (Rect.unit ![0, 0, 0] ![1, 256, 256] inb_S8x256x256_S1x256x256_0_0_0)) (View.ld x8 (Rect.unit ![0, 0, 0] ![1, 256, 128] inb_S8x256x128_S1x256x128_0_0_0))⟩]

set_option maxHeartbeats 8000000 in
theorem sout0_B_0_eq  (c : Dev nD) (i : grid0.Coords) (arg2 : Memref sig .tc .smem S8 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256x256 .f32) (harg9 : arg9.IsWhole) (arg10 : Memref sig .tc .vmem S8x256x128 .f32) (harg10 : arg10.IsWhole) (arg11 : Memref sig .tc .vmem S8x256x128 .f32) (harg11 : arg11.IsWhole) (arg12 : Memref sig .tc .vmem S256x4096 .bf16) (harg12 : arg12.IsWhole) (arg13 : Memref sig .tc .vmem S8x256x512 .f32) (harg13 : arg13.IsWhole) (hc0 : ¬cond0_0 i)
    (x0 : Vec F S8 .f32) (x1 : Vec F S256x2048 .bf16) (x2 : Vec F S256x2048 .bf16) (x3 : Vec F S256x4096 .bf16) (x4 : Vec F S256x4096 .bf16) (x5 : Vec F S256x128 .f32) (x6 : Vec F S256x128 .f32) (x7 : Vec F S8x256x256 .f32) (x8 : Vec F S8x256x128 .f32) (x9 : Vec F S8x256x128 .f32) (xs0 : Vec F S8x256x512 .f32) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = View.canon (stPieces x0 x2 x3 x5 x6 x9 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg13.read_unread]
  rfl

set_option maxHeartbeats 8000000 in
theorem sout0_A_0_eq  (c : Dev nD) (i : grid0.Coords) (arg2 : Memref sig .tc .smem S8 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256x256 .f32) (harg9 : arg9.IsWhole) (arg10 : Memref sig .tc .vmem S8x256x128 .f32) (harg10 : arg10.IsWhole) (arg11 : Memref sig .tc .vmem S8x256x128 .f32) (harg11 : arg11.IsWhole) (arg12 : Memref sig .tc .vmem S256x4096 .bf16) (harg12 : arg12.IsWhole) (arg13 : Memref sig .tc .vmem S8x256x512 .f32) (harg13 : arg13.IsWhole) (hc0 : cond0_0 i)
    (x0 : Vec F S8 .f32) (x1 : Vec F S256x2048 .bf16) (x2 : Vec F S256x2048 .bf16) (x3 : Vec F S256x4096 .bf16) (x4 : Vec F S256x4096 .bf16) (x5 : Vec F S256x128 .f32) (x6 : Vec F S256x128 .f32) (x7 : Vec F S8x256x256 .f32) (x8 : Vec F S8x256x128 .f32) (x9 : Vec F S8x256x128 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = View.canon (stPieces x0 x2 x3 x5 x6 x9 (k0_pay2 (F := F)) ++ [⟨Rect.unit ![0, 0, 0] ![8, 256, 512] inb_S8x256x512_S8x256x512_0_0_0, k0_pay2⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, harg13.read_unread]
  rfl

set_option maxHeartbeats 8000000 in
theorem out0_B_10_eq  (c : Dev nD) (i : grid0.Coords) (arg2 : Memref sig .tc .smem S8 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256x256 .f32) (harg9 : arg9.IsWhole) (arg10 : Memref sig .tc .vmem S8x256x128 .f32) (harg10 : arg10.IsWhole) (arg11 : Memref sig .tc .vmem S8x256x128 .f32) (harg11 : arg11.IsWhole) (arg12 : Memref sig .tc .vmem S256x4096 .bf16) (harg12 : arg12.IsWhole) (arg13 : Memref sig .tc .vmem S8x256x512 .f32) (harg13 : arg13.IsWhole) (hc0 : ¬cond0_0 i)
    (x0 : Vec F S8 .f32) (x1 : Vec F S256x2048 .bf16) (x2 : Vec F S256x2048 .bf16) (x3 : Vec F S256x4096 .bf16) (x4 : Vec F S256x4096 .bf16) (x5 : Vec F S256x128 .f32) (x6 : Vec F S256x128 .f32) (x7 : Vec F S8x256x256 .f32) (x8 : Vec F S8x256x128 .f32) (x9 : Vec F S8x256x128 .f32) (xs0 : Vec F S8x256x512 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = View.canon (outPieces x1 x2 x3 x4 x5 x6 x7 x8 xs0) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg13.read_unread]
  rfl

set_option maxHeartbeats 8000000 in
theorem out0_A_10_eq  (c : Dev nD) (i : grid0.Coords) (arg2 : Memref sig .tc .smem S8 .f32) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x128 .f32) (harg7 : arg7.IsWhole) (arg8 : Memref sig .tc .vmem S256x128 .f32) (harg8 : arg8.IsWhole) (arg9 : Memref sig .tc .vmem S8x256x256 .f32) (harg9 : arg9.IsWhole) (arg10 : Memref sig .tc .vmem S8x256x128 .f32) (harg10 : arg10.IsWhole) (arg11 : Memref sig .tc .vmem S8x256x128 .f32) (harg11 : arg11.IsWhole) (arg12 : Memref sig .tc .vmem S256x4096 .bf16) (harg12 : arg12.IsWhole) (arg13 : Memref sig .tc .vmem S8x256x512 .f32) (harg13 : arg13.IsWhole) (hc0 : cond0_0 i)
    (x0 : Vec F S8 .f32) (x1 : Vec F S256x2048 .bf16) (x2 : Vec F S256x2048 .bf16) (x3 : Vec F S256x4096 .bf16) (x4 : Vec F S256x4096 .bf16) (x5 : Vec F S256x128 .f32) (x6 : Vec F S256x128 .f32) (x7 : Vec F S8x256x256 .f32) (x8 : Vec F S8x256x128 .f32) (x9 : Vec F S8x256x128 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = View.canon (outPieces x1 x2 x3 x4 x5 x6 x7 x8 (k0_pay2 (F := F))) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  unfold kernelRun0_A
  dsimp only
  sl_unfold_words
  simp (disch := decide) only [↓ View.readCov_skip, ↓ View.readCov_fill]
  simp only [View.readAt_eq_ld, harg2.read_unread, harg3.read_unread, harg4.read_unread, harg5.read_unread, harg6.read_unread, harg7.read_unread, harg8.read_unread, harg9.read_unread, harg10.read_unread, harg11.read_unread, harg13.read_unread]
  rfl

end Cert.KernelIdeal.Ret
end
-- ==== Proof.KHead.lean ====
/- One head of one grid point at an index, every loaded entry a real number: its new state is the state a chunk on, its rows of the output are
   the gated, normalised retention. -/
module

public import proofs.«01_k».proof.Proof.KOpen
public import proofs.«01_k».proof.Proof.RetDefs
public import Idealize.ShloMosaic.Lib.Pointwise

@[expose] public section
set_option maxRecDepth 16384
noncomputable section
open Idealize.ShloMosaic Idealize.ShloMosaic.TcCoe Idealize.SL.Sem
namespace Cert.KernelIdeal.Ret
open Cert.KernelIdeal Cert.KernelIdeal.Gen RetM

theorem pay5_apply (c s : Vec Ideal S256x128 .f32) (k : Vec Ideal S256x256 .bf16) (C S X : ℕ → ℝ) (r d : Fin 256)
    (hc : ∀ d : Fin 128, c (ix2 r d) = (C d : EReal)) (hs : ∀ d : Fin 128, s (ix2 r d) = (S d : EReal))
    (hk : ∀ d : Fin 256, k (ix2 r d) = (X d : EReal)) :
    k0_pay5 c s k (ix2 r d) = (rot C S (fun j => X j * (1 / 16)) d : EReal) := by
  pointwise [k0_pay5, k0_pay3, k0_pay4]
  simp only [hc, hs, hk, lit_sixteenth, rot]
  split
  · simp only [EReal.coe_sub, EReal.coe_mul]
  · simp only [EReal.coe_add, EReal.coe_mul]

theorem pay6_apply (c s : Vec Ideal S256x128 .f32) (k : Vec Ideal S256x256 .bf16) (C S X : ℕ → ℝ) (r d : Fin 256)
    (hc : ∀ d : Fin 128, c (ix2 r d) = (C d : EReal)) (hs : ∀ d : Fin 128, s (ix2 r d) = (S d : EReal))
    (hk : ∀ d : Fin 256, k (ix2 r d) = (X d : EReal)) :
    k0_pay6 c s k (ix2 r d) = (rot C S X d : EReal) := by
  pointwise [k0_pay6, k0_pay3, k0_pay4]
  simp only [hc, hs, hk, rot]
  split
  · simp only [EReal.coe_sub, EReal.coe_mul]
  · simp only [EReal.coe_add, EReal.coe_mul]

theorem hSt_step (c s : Vec Ideal S256x128 .f32) (k : Vec Ideal S256x256 .bf16) (v : Vec Ideal S256x512 .bf16) (st : Vec Ideal S1x256x512 .f32)
    (z : Vec Ideal S1x256x128 .f32) (cd : Elt Ideal .f32) (lg : ℝ) (kf vf : ℕ → ℕ → ℝ) (n : ℕ)
    (hk : ∀ r d : Fin 256, k0_pay5 c s k (ix2 r d) = (kf (n + r) d : EReal)) (hv : ∀ (r : Fin 256) (e : Fin 512), v (ix2 r e) = (vf (n + r) e : EReal))
    (hst : ∀ (d : Fin 256) (e : Fin 512), st (ix3 0 d e) = (stSum lg kf vf n d e : EReal))
    (hz : ∀ (r : Fin 256) (l : Fin 128), z (ix3 0 r l) = (Real.exp ((((256 : ℕ) : ℝ) - 1 - (r : ℕ)) * lg) : EReal))
    (hcd : cd = (Real.exp (((256 : ℕ) : ℝ) * lg) : EReal)) (d : Fin 256) (e : Fin 512) :
    hSt c s k v st z cd (ix3 0 d e) = (stSum lg kf vf (n + 256) d e : EReal) := by
  unfold hSt
  generalize k0_pay5 c s k = K at hk
  pointwise [k0_pay9, k0_pay8]
  simp only [hz, hk, hv, hst, hcd, dite_eq_ite, ite_self]
  exact stSum_stepE lg kf vf 256 n d e

theorem hNorm_step (c s : Vec Ideal S256x128 .f32) (q k : Vec Ideal S256x256 .bf16) (v : Vec Ideal S256x512 .bf16) (st : Vec Ideal S1x256x512 .f32)
    (dm : Vec Ideal S1x256x256 .f32) (xi : Vec Ideal S1x256x128 .f32) (lg : ℝ) (qf kf vf : ℕ → ℕ → ℝ) (n : ℕ)
    (hq : ∀ r d : Fin 256, k0_pay6 c s q (ix2 r d) = (qf (n + r) d : EReal)) (hk : ∀ r d : Fin 256, k0_pay5 c s k (ix2 r d) = (kf (n + r) d : EReal))
    (hv : ∀ (r : Fin 256) (e : Fin 512), v (ix2 r e) = (vf (n + r) e : EReal))
    (hst : ∀ (d : Fin 256) (e : Fin 512), st (ix3 0 d e) = (stSum lg kf vf n d e : EReal))
    (hdm : ∀ r m : Fin 256, dm (ix3 0 r m) = (dmask lg r m : EReal))
    (hxi : ∀ (r : Fin 256) (l : Fin 128), xi (ix3 0 r l) = (Real.exp ((((r : ℕ) : ℝ) + 1) * lg) : EReal)) (r : Fin 256) (e : Fin 512) :
    hNorm c s q k v st dm xi (ix2 r e) = normT (fun e => (outSum 256 lg qf kf vf (n + r) e : EReal)) e := by
  have hsc : ∀ r m : Fin 256, k0_pay7 c s q k dm (ix2 r m)
      = (∑ d : Fin 256, (qf (n + r) d : EReal) * (kf (n + m) d : EReal)) * (dmask lg r m : EReal) := by
    intro r m
    unfold k0_pay7
    generalize k0_pay5 c s k = K at hk
    generalize k0_pay6 c s q = Q at hq
    pointwise
    simp only [hq, hk, hdm]
  unfold hNorm
  generalize k0_pay7 c s q k dm = W at hsc
  generalize k0_pay6 c s q = Q at hq
  pointwise [k0_pay10, k0_pay8]
  simp only [hxi, hq, hsc, hv, hst, dite_eq_ite, ite_self]
  simp only [outSum_stepE 256 lg qf kf vf 256 n r _ r.2]
  rfl

theorem hOut_step (c s : Vec Ideal S256x128 .f32) (q k : Vec Ideal S256x256 .bf16) (v g : Vec Ideal S256x512 .bf16) (st : Vec Ideal S1x256x512 .f32)
    (dm : Vec Ideal S1x256x256 .f32) (xi : Vec Ideal S1x256x128 .f32) (lg : ℝ) (qf kf vf gf : ℕ → ℕ → ℝ) (n : ℕ)
    (hq : ∀ r d : Fin 256, k0_pay6 c s q (ix2 r d) = (qf (n + r) d : EReal)) (hk : ∀ r d : Fin 256, k0_pay5 c s k (ix2 r d) = (kf (n + r) d : EReal))
    (hv : ∀ (r : Fin 256) (e : Fin 512), v (ix2 r e) = (vf (n + r) e : EReal))
    (hg : ∀ (r : Fin 256) (e : Fin 512), g (ix2 r e) = (gf (n + r) e : EReal))
    (hst : ∀ (d : Fin 256) (e : Fin 512), st (ix3 0 d e) = (stSum lg kf vf n d e : EReal))
    (hdm : ∀ r m : Fin 256, dm (ix3 0 r m) = (dmask lg r m : EReal))
    (hxi : ∀ (r : Fin 256) (l : Fin 128), xi (ix3 0 r l) = (Real.exp ((((r : ℕ) : ℝ) + 1) * lg) : EReal)) (r : Fin 256) (e : Fin 512) :
    hOut c s q k v g st dm xi (ix2 r e)
      = silu (gf (n + r) e) * normT (fun e => (outSum 256 lg qf kf vf (n + r) e : EReal)) e := by
  have hN := hNorm_step c s q k v st dm xi lg qf kf vf n hq hk hv hst hdm hxi r e
  unfold hOut
  generalize hNorm c s q k v st dm xi = N at hN
  pointwise [k0_pay11]
  rw [hN, hg, gate_tanh]

/-- What a grid point's blocks hold: `n` the first position of its chunk. -/
structure Blk (P ct sn : ℕ → ℕ → ℝ) (lg : ℕ → ℝ) (n : ℕ) (x0 : Vec Ideal S8 .f32) (x1 x2 : Vec Ideal S256x2048 .bf16)
    (x3 x4 : Vec Ideal S256x4096 .bf16) (x5 x6 : Vec Ideal S256x128 .f32) (x7 : Vec Ideal S8x256x256 .f32)
    (x8 x9 : Vec Ideal S8x256x128 .f32) : Prop where
  h0 : ∀ h : Fin 8, x0 (ix1 h) = (Real.exp (((256 : ℕ) : ℝ) * lg h) : EReal)
  h1 : ∀ (r : Fin 256) (j : Fin 2048), x1 (ix2 r j) = (P (n + r) j : EReal)
  h2 : ∀ (r : Fin 256) (j : Fin 2048), x2 (ix2 r j) = (P (n + r) (2048 + j) : EReal)
  h3 : ∀ (r : Fin 256) (j : Fin 4096), x3 (ix2 r j) = (P (n + r) (4096 + j) : EReal)
  h4 : ∀ (r : Fin 256) (j : Fin 4096), x4 (ix2 r j) = (P (n + r) (8192 + j) : EReal)
  h5 : ∀ (r : Fin 256) (j : Fin 128), x5 (ix2 r j) = (ct (n + r) j : EReal)
  h6 : ∀ (r : Fin 256) (j : Fin 128), x6 (ix2 r j) = (sn (n + r) j : EReal)
  h7 : ∀ (h : Fin 8) (r m : Fin 256), x7 (ix3 h r m) = (dmask (lg h) r m : EReal)
  h8 : ∀ (h : Fin 8) (r : Fin 256) (l : Fin 128), x8 (ix3 h r l) = (Real.exp ((((r : ℕ) : ℝ) + 1) * lg h) : EReal)
  h9 : ∀ (h : Fin 8) (r : Fin 256) (l : Fin 128), x9 (ix3 h r l) = (Real.exp ((((256 : ℕ) : ℝ) - 1 - (r : ℕ)) * lg h) : EReal)

/-- The carried state before position `n`. -/
def StAt (P ct sn : ℕ → ℕ → ℝ) (lg : ℕ → ℝ) (n : ℕ) (xs : Vec Ideal S8x256x512 .f32) : Prop :=
  ∀ (h : Fin 8) (d : Fin 256) (e : Fin 512), xs (ix3 h d e) = (stSum (lg h) (kk P ct sn h) (vv P h) n d e : EReal)

section
variable {P ct sn : ℕ → ℕ → ℝ} {lg : ℕ → ℝ} {n : ℕ} {x0 : Vec Ideal S8 .f32} {x1 x2 : Vec Ideal S256x2048 .bf16}
    {x3 x4 : Vec Ideal S256x4096 .bf16} {x5 x6 : Vec Ideal S256x128 .f32} {x7 : Vec Ideal S8x256x256 .f32}
    {x8 x9 : Vec Ideal S8x256x128 .f32} {xs : Vec Ideal S8x256x512 .f32}

set_option maxHeartbeats 8000000 in
/-- Every store into the carried state is a block of the next state. -/
theorem stPieces_of (B : Blk P ct sn lg n x0 x1 x2 x3 x4 x5 x6 x7 x8 x9) (hs : StAt P ct sn lg n xs) :
    View.PiecesOf (fun y : S8x256x512.Idx => (stSum (lg (y 0).val) (kk P ct sn (y 0).val) (vv P (y 0).val) (n + 256) (y 1).val (y 2).val : EReal))
      (stPieces x0 x2 x3 x5 x6 x9 xs) := by
  refine ⟨?_, ?_, ?_, ?_, ?_, ?_, ?_, ?_, trivial⟩
  · intro w
    idx_vars w
    obtain rfl : w0 = 0 := Subsingleton.elim _ _
    refine (hSt_step _ _ _ _ _ _ _ (lg 7) (kk P ct sn 7) (vv P 7) n ?_ ?_ ?_ ?_ ?_ w1 w2).trans ?_
    · exact fun r d => pay5_apply _ _ _ (ct (n + r)) (sn (n + r)) (fun j => P (n + r) (2048 + (256 * 7 + j))) r d
        (fun d => by pointwise; exact B.h5 r d) (fun d => by pointwise; exact B.h6 r d) (fun d => by pointwise; exact B.h2 r _)
    · intro r e; pointwise; refine (B.h3 r _).trans ?_; simp [vv]
    · intro d e; pointwise; exact hs 7 d e
    · intro r l; pointwise; exact B.h9 7 r l
    · pointwise; exact B.h0 7
    show _ = ((stSum (lg (7 + 1 * 0)) (kk P ct sn (7 + 1 * 0)) (vv P (7 + 1 * 0)) (n + 256) (0 + 1 * w1.val) (0 + 1 * w2.val) : ℝ) : EReal)
    simp only [Nat.zero_add, Nat.one_mul, Nat.mul_zero, Nat.add_zero]
  · intro w
    idx_vars w
    obtain rfl : w0 = 0 := Subsingleton.elim _ _
    refine (hSt_step _ _ _ _ _ _ _ (lg 6) (kk P ct sn 6) (vv P 6) n ?_ ?_ ?_ ?_ ?_ w1 w2).trans ?_
    · exact fun r d => pay5_apply _ _ _ (ct (n + r)) (sn (n + r)) (fun j => P (n + r) (2048 + (256 * 6 + j))) r d
        (fun d => by pointwise; exact B.h5 r d) (fun d => by pointwise; exact B.h6 r d) (fun d => by pointwise; exact B.h2 r _)
    · intro r e; pointwise; refine (B.h3 r _).trans ?_; simp [vv]
    · intro d e; pointwise; exact hs 6 d e
    · intro r l; pointwise; exact B.h9 6 r l
    · pointwise; exact B.h0 6
    show _ = ((stSum (lg (6 + 1 * 0)) (kk P ct sn (6 + 1 * 0)) (vv P (6 + 1 * 0)) (n + 256) (0 + 1 * w1.val) (0 + 1 * w2.val) : ℝ) : EReal)
    simp only [Nat.zero_add, Nat.one_mul, Nat.mul_zero, Nat.add_zero]
  · intro w
    idx_vars w
    obtain rfl : w0 = 0 := Subsingleton.elim _ _
    refine (hSt_step _ _ _ _ _ _ _ (lg 5) (kk P ct sn 5) (vv P 5) n ?_ ?_ ?_ ?_ ?_ w1 w2).trans ?_
    · exact fun r d => pay5_apply _ _ _ (ct (n + r)) (sn (n + r)) (fun j => P (n + r) (2048 + (256 * 5 + j))) r d
        (fun d => by pointwise; exact B.h5 r d) (fun d => by pointwise; exact B.h6 r d) (fun d => by pointwise; exact B.h2 r _)
    · intro r e; pointwise; refine (B.h3 r _).trans ?_; simp [vv]
    · intro d e; pointwise; exact hs 5 d e
    · intro r l; pointwise; exact B.h9 5 r l
    · pointwise; exact B.h0 5
    show _ = ((stSum (lg (5 + 1 * 0)) (kk P ct sn (5 + 1 * 0)) (vv P (5 + 1 * 0)) (n + 256) (0 + 1 * w1.val) (0 + 1 * w2.val) : ℝ) : EReal)
    simp only [Nat.zero_add, Nat.one_mul, Nat.mul_zero, Nat.add_zero]
  · intro w
    idx_vars w
    obtain rfl : w0 = 0 := Subsingleton.elim _ _
    refine (hSt_step _ _ _ _ _ _ _ (lg 4) (kk P ct sn 4) (vv P 4) n ?_ ?_ ?_ ?_ ?_ w1 w2).trans ?_
    · exact fun r d => pay5_apply _ _ _ (ct (n + r)) (sn (n + r)) (fun j => P (n + r) (2048 + (256 * 4 + j))) r d
        (fun d => by pointwise; exact B.h5 r d) (fun d => by pointwise; exact B.h6 r d) (fun d => by pointwise; exact B.h2 r _)
    · intro r e; pointwise; refine (B.h3 r _).trans ?_; simp [vv]
    · intro d e; pointwise; exact hs 4 d e
    · intro r l; pointwise; exact B.h9 4 r l
    · pointwise; exact B.h0 4
    show _ = ((stSum (lg (4 + 1 * 0)) (kk P ct sn (4 + 1 * 0)) (vv P (4 + 1 * 0)) (n + 256) (0 + 1 * w1.val) (0 + 1 * w2.val) : ℝ) : EReal)
    simp only [Nat.zero_add, Nat.one_mul, Nat.mul_zero, Nat.add_zero]
  · intro w
    idx_vars w
    obtain rfl : w0 = 0 := Subsingleton.elim _ _
    refine (hSt_step _ _ _ _ _ _ _ (lg 3) (kk P ct sn 3) (vv P 3) n ?_ ?_ ?_ ?_ ?_ w1 w2).trans ?_
    · exact fun r d => pay5_apply _ _ _ (ct (n + r)) (sn (n + r)) (fun j => P (n + r) (2048 + (256 * 3 + j))) r d
        (fun d => by pointwise; exact B.h5 r d) (fun d => by pointwise; exact B.h6 r d) (fun d => by pointwise; exact B.h2 r _)
    · intro r e; pointwise; refine (B.h3 r _).trans ?_; simp [vv]
    · intro d e; pointwise; exact hs 3 d e
    · intro r l; pointwise; exact B.h9 3 r l
    · pointwise; exact B.h0 3
    show _ = ((stSum (lg (3 + 1 * 0)) (kk P ct sn (3 + 1 * 0)) (vv P (3 + 1 * 0)) (n + 256) (0 + 1 * w1.val) (0 + 1 * w2.val) : ℝ) : EReal)
    simp only [Nat.zero_add, Nat.one_mul, Nat.mul_zero, Nat.add_zero]
  · intro w
    idx_vars w
    obtain rfl : w0 = 0 := Subsingleton.elim _ _
    refine (hSt_step _ _ _ _ _ _ _ (lg 2) (kk P ct sn 2) (vv P 2) n ?_ ?_ ?_ ?_ ?_ w1 w2).trans ?_
    · exact fun r d => pay5_apply _ _ _ (ct (n + r)) (sn (n + r)) (fun j => P (n + r) (2048 + (256 * 2 + j))) r d
        (fun d => by pointwise; exact B.h5 r d) (fun d => by pointwise; exact B.h6 r d) (fun d => by pointwise; exact B.h2 r _)
    · intro r e; pointwise; refine (B.h3 r _).trans ?_; simp [vv]
    · intro d e; pointwise; exact hs 2 d e
    · intro r l; pointwise; exact B.h9 2 r l
    · pointwise; exact B.h0 2
    show _ = ((stSum (lg (2 + 1 * 0)) (kk P ct sn (2 + 1 * 0)) (vv P (2 + 1 * 0)) (n + 256) (0 + 1 * w1.val) (0 + 1 * w2.val) : ℝ) : EReal)
    simp only [Nat.zero_add, Nat.one_mul, Nat.mul_zero, Nat.add_zero]
  · intro w
    idx_vars w
    obtain rfl : w0 = 0 := Subsingleton.elim _ _
    refine (hSt_step _ _ _ _ _ _ _ (lg 1) (kk P ct sn 1) (vv P 1) n ?_ ?_ ?_ ?_ ?_ w1 w2).trans ?_
    · exact fun r d => pay5_apply _ _ _ (ct (n + r)) (sn (n + r)) (fun j => P (n + r) (2048 + (256 * 1 + j))) r d
        (fun d => by pointwise; exact B.h5 r d) (fun d => by pointwise; exact B.h6 r d) (fun d => by pointwise; exact B.h2 r _)
    · intro r e; pointwise; refine (B.h3 r _).trans ?_; simp [vv]
    · intro d e; pointwise; exact hs 1 d e
    · intro r l; pointwise; exact B.h9 1 r l
    · pointwise; exact B.h0 1
    show _ = ((stSum (lg (1 + 1 * 0)) (kk P ct sn (1 + 1 * 0)) (vv P (1 + 1 * 0)) (n + 256) (0 + 1 * w1.val) (0 + 1 * w2.val) : ℝ) : EReal)
    simp only [Nat.zero_add, Nat.one_mul, Nat.mul_zero, Nat.add_zero]
  · intro w
    idx_vars w
    obtain rfl : w0 = 0 := Subsingleton.elim _ _
    refine (hSt_step _ _ _ _ _ _ _ (lg 0) (kk P ct sn 0) (vv P 0) n ?_ ?_ ?_ ?_ ?_ w1 w2).trans ?_
    · exact fun r d => pay5_apply _ _ _ (ct (n + r)) (sn (n + r)) (fun j => P (n + r) (2048 + (256 * 0 + j))) r d
        (fun d => by pointwise; exact B.h5 r d) (fun d => by pointwise; exact B.h6 r d) (fun d => by pointwise; exact B.h2 r _)
    · intro r e; pointwise; refine (B.h3 r _).trans ?_; simp [vv]
    · intro d e; pointwise; exact hs 0 d e
    · intro r l; pointwise; exact B.h9 0 r l
    · pointwise; exact B.h0 0
    show _ = ((stSum (lg (0 + 1 * 0)) (kk P ct sn (0 + 1 * 0)) (vv P (0 + 1 * 0)) (n + 256) (0 + 1 * w1.val) (0 + 1 * w2.val) : ℝ) : EReal)
    simp only [Nat.zero_add, Nat.one_mul, Nat.mul_zero, Nat.add_zero]

set_option maxHeartbeats 8000000 in
/-- Every store into the output block is a block of the gated, normalised retention. -/
theorem outPieces_of (B : Blk P ct sn lg n x0 x1 x2 x3 x4 x5 x6 x7 x8 x9) (hs : StAt P ct sn lg n xs) :
    View.PiecesOf (fun y : S256x4096.Idx => outAt P ct sn lg (n + (y 0).val) ((y 1).val / 512) ⟨(y 1).val % 512, Nat.mod_lt _ (by decide)⟩)
      (outPieces x1 x2 x3 x4 x5 x6 x7 x8 xs) := by
  refine ⟨?_, ?_, ?_, ?_, ?_, ?_, ?_, ?_, trivial⟩
  · intro w
    idx_vars w
    refine (hOut_step _ _ _ _ _ _ _ _ _ (lg 7) (qq P ct sn 7) (kk P ct sn 7) (vv P 7) (gg P 7) n ?_ ?_ ?_ ?_ ?_ ?_ ?_ w0 w1).trans ?_
    · exact fun r d => pay6_apply _ _ _ (ct (n + r)) (sn (n + r)) (fun j => P (n + r) (256 * 7 + j)) r d
        (fun d => by pointwise; exact B.h5 r d) (fun d => by pointwise; exact B.h6 r d) (fun d => by pointwise; exact B.h1 r _)
    · exact fun r d => pay5_apply _ _ _ (ct (n + r)) (sn (n + r)) (fun j => P (n + r) (2048 + (256 * 7 + j))) r d
        (fun d => by pointwise; exact B.h5 r d) (fun d => by pointwise; exact B.h6 r d) (fun d => by pointwise; exact B.h2 r _)
    · intro r e; pointwise; refine (B.h3 r _).trans ?_; simp [vv]
    · intro r e; pointwise; refine (B.h4 r _).trans ?_; simp [gg]
    · intro d e; pointwise; exact hs 7 d e
    · intro r m; pointwise; exact B.h7 7 r m
    · intro r l; pointwise; exact B.h8 7 r l
    exact outAt_split P ct sn lg (n + w0) 7 w1 _ _ (by show n + w0.val = n + (0 + 1 * w0.val); omega)
      (by show 512 * 7 + w1.val = 3584 + 1 * w1.val; omega)
  · intro w
    idx_vars w
    refine (hOut_step _ _ _ _ _ _ _ _ _ (lg 6) (qq P ct sn 6) (kk P ct sn 6) (vv P 6) (gg P 6) n ?_ ?_ ?_ ?_ ?_ ?_ ?_ w0 w1).trans ?_
    · exact fun r d => pay6_apply _ _ _ (ct (n + r)) (sn (n + r)) (fun j => P (n + r) (256 * 6 + j)) r d
        (fun d => by pointwise; exact B.h5 r d) (fun d => by pointwise; exact B.h6 r d) (fun d => by pointwise; exact B.h1 r _)
    · exact fun r d => pay5_apply _ _ _ (ct (n + r)) (sn (n + r)) (fun j => P (n + r) (2048 + (256 * 6 + j))) r d
        (fun d => by pointwise; exact B.h5 r d) (fun d => by pointwise; exact B.h6 r d) (fun d => by pointwise; exact B.h2 r _)
    · intro r e; pointwise; refine (B.h3 r _).trans ?_; simp [vv]
    · intro r e; pointwise; refine (B.h4 r _).trans ?_; simp [gg]
    · intro d e; pointwise; exact hs 6 d e
    · intro r m; pointwise; exact B.h7 6 r m
    · intro r l; pointwise; exact B.h8 6 r l
    exact outAt_split P ct sn lg (n + w0) 6 w1 _ _ (by show n + w0.val = n + (0 + 1 * w0.val); omega)
      (by show 512 * 6 + w1.val = 3072 + 1 * w1.val; omega)
  · intro w
    idx_vars w
    refine (hOut_step _ _ _ _ _ _ _ _ _ (lg 5) (qq P ct sn 5) (kk P ct sn 5) (vv P 5) (gg P 5) n ?_ ?_ ?_ ?_ ?_ ?_ ?_ w0 w1).trans ?_
    · exact fun r d => pay6_apply _ _ _ (ct (n + r)) (sn (n + r)) (fun j => P (n + r) (256 * 5 + j)) r d
        (fun d => by pointwise; exact B.h5 r d) (fun d => by pointwise; exact B.h6 r d) (fun d => by pointwise; exact B.h1 r _)
    · exact fun r d => pay5_apply _ _ _ (ct (n + r)) (sn (n + r)) (fun j => P (n + r) (2048 + (256 * 5 + j))) r d
        (fun d => by pointwise; exact B.h5 r d) (fun d => by pointwise; exact B.h6 r d) (fun d => by pointwise; exact B.h2 r _)
    · intro r e; pointwise; refine (B.h3 r _).trans ?_; simp [vv]
    · intro r e; pointwise; refine (B.h4 r _).trans ?_; simp [gg]
    · intro d e; pointwise; exact hs 5 d e
    · intro r m; pointwise; exact B.h7 5 r m
    · intro r l; pointwise; exact B.h8 5 r l
    exact outAt_split P ct sn lg (n + w0) 5 w1 _ _ (by show n + w0.val = n + (0 + 1 * w0.val); omega)
      (by show 512 * 5 + w1.val = 2560 + 1 * w1.val; omega)
  · intro w
    idx_vars w
    refine (hOut_step _ _ _ _ _ _ _ _ _ (lg 4) (qq P ct sn 4) (kk P ct sn 4) (vv P 4) (gg P 4) n ?_ ?_ ?_ ?_ ?_ ?_ ?_ w0 w1).trans ?_
    · exact fun r d => pay6_apply _ _ _ (ct (n + r)) (sn (n + r)) (fun j => P (n + r) (256 * 4 + j)) r d
        (fun d => by pointwise; exact B.h5 r d) (fun d => by pointwise; exact B.h6 r d) (fun d => by pointwise; exact B.h1 r _)
    · exact fun r d => pay5_apply _ _ _ (ct (n + r)) (sn (n + r)) (fun j => P (n + r) (2048 + (256 * 4 + j))) r d
        (fun d => by pointwise; exact B.h5 r d) (fun d => by pointwise; exact B.h6 r d) (fun d => by pointwise; exact B.h2 r _)
    · intro r e; pointwise; refine (B.h3 r _).trans ?_; simp [vv]
    · intro r e; pointwise; refine (B.h4 r _).trans ?_; simp [gg]
    · intro d e; pointwise; exact hs 4 d e
    · intro r m; pointwise; exact B.h7 4 r m
    · intro r l; pointwise; exact B.h8 4 r l
    exact outAt_split P ct sn lg (n + w0) 4 w1 _ _ (by show n + w0.val = n + (0 + 1 * w0.val); omega)
      (by show 512 * 4 + w1.val = 2048 + 1 * w1.val; omega)
  · intro w
    idx_vars w
    refine (hOut_step _ _ _ _ _ _ _ _ _ (lg 3) (qq P ct sn 3) (kk P ct sn 3) (vv P 3) (gg P 3) n ?_ ?_ ?_ ?_ ?_ ?_ ?_ w0 w1).trans ?_
    · exact fun r d => pay6_apply _ _ _ (ct (n + r)) (sn (n + r)) (fun j => P (n + r) (256 * 3 + j)) r d
        (fun d => by pointwise; exact B.h5 r d) (fun d => by pointwise; exact B.h6 r d) (fun d => by pointwise; exact B.h1 r _)
    · exact fun r d => pay5_apply _ _ _ (ct (n + r)) (sn (n + r)) (fun j => P (n + r) (2048 + (256 * 3 + j))) r d
        (fun d => by pointwise; exact B.h5 r d) (fun d => by pointwise; exact B.h6 r d) (fun d => by pointwise; exact B.h2 r _)
    · intro r e; pointwise; refine (B.h3 r _).trans ?_; simp [vv]
    · intro r e; pointwise; refine (B.h4 r _).trans ?_; simp [gg]
    · intro d e; pointwise; exact hs 3 d e
    · intro r m; pointwise; exact B.h7 3 r m
    · intro r l; pointwise; exact B.h8 3 r l
    exact outAt_split P ct sn lg (n + w0) 3 w1 _ _ (by show n + w0.val = n + (0 + 1 * w0.val); omega)
      (by show 512 * 3 + w1.val = 1536 + 1 * w1.val; omega)
  · intro w
    idx_vars w
    refine (hOut_step _ _ _ _ _ _ _ _ _ (lg 2) (qq P ct sn 2) (kk P ct sn 2) (vv P 2) (gg P 2) n ?_ ?_ ?_ ?_ ?_ ?_ ?_ w0 w1).trans ?_
    · exact fun r d => pay6_apply _ _ _ (ct (n + r)) (sn (n + r)) (fun j => P (n + r) (256 * 2 + j)) r d
        (fun d => by pointwise; exact B.h5 r d) (fun d => by pointwise; exact B.h6 r d) (fun d => by pointwise; exact B.h1 r _)
    · exact fun r d => pay5_apply _ _ _ (ct (n + r)) (sn (n + r)) (fun j => P (n + r) (2048 + (256 * 2 + j))) r d
        (fun d => by pointwise; exact B.h5 r d) (fun d => by pointwise; exact B.h6 r d) (fun d => by pointwise; exact B.h2 r _)
    · intro r e; pointwise; refine (B.h3 r _).trans ?_; simp [vv]
    · intro r e; pointwise; refine (B.h4 r _).trans ?_; simp [gg]
    · intro d e; pointwise; exact hs 2 d e
    · intro r m; pointwise; exact B.h7 2 r m
    · intro r l; pointwise; exact B.h8 2 r l
    exact outAt_split P ct sn lg (n + w0) 2 w1 _ _ (by show n + w0.val = n + (0 + 1 * w0.val); omega)
      (by show 512 * 2 + w1.val = 1024 + 1 * w1.val; omega)
  · intro w
    idx_vars w
    refine (hOut_step _ _ _ _ _ _ _ _ _ (lg 1) (qq P ct sn 1) (kk P ct sn 1) (vv P 1) (gg P 1) n ?_ ?_ ?_ ?_ ?_ ?_ ?_ w0 w1).trans ?_
    · exact fun r d => pay6_apply _ _ _ (ct (n + r)) (sn (n + r)) (fun j => P (n + r) (256 * 1 + j)) r d
        (fun d => by pointwise; exact B.h5 r d) (fun d => by pointwise; exact B.h6 r d) (fun d => by pointwise; exact B.h1 r _)
    · exact fun r d => pay5_apply _ _ _ (ct (n + r)) (sn (n + r)) (fun j => P (n + r) (2048 + (256 * 1 + j))) r d
        (fun d => by pointwise; exact B.h5 r d) (fun d => by pointwise; exact B.h6 r d) (fun d => by pointwise; exact B.h2 r _)
    · intro r e; pointwise; refine (B.h3 r _).trans ?_; simp [vv]
    · intro r e; pointwise; refine (B.h4 r _).trans ?_; simp [gg]
    · intro d e; pointwise; exact hs 1 d e
    · intro r m; pointwise; exact B.h7 1 r m
    · intro r l; pointwise; exact B.h8 1 r l
    exact outAt_split P ct sn lg (n + w0) 1 w1 _ _ (by show n + w0.val = n + (0 + 1 * w0.val); omega)
      (by show 512 * 1 + w1.val = 512 + 1 * w1.val; omega)
  · intro w
    idx_vars w
    refine (hOut_step _ _ _ _ _ _ _ _ _ (lg 0) (qq P ct sn 0) (kk P ct sn 0) (vv P 0) (gg P 0) n ?_ ?_ ?_ ?_ ?_ ?_ ?_ w0 w1).trans ?_
    · exact fun r d => pay6_apply _ _ _ (ct (n + r)) (sn (n + r)) (fun j => P (n + r) (256 * 0 + j)) r d
        (fun d => by pointwise; exact B.h5 r d) (fun d => by pointwise; exact B.h6 r d) (fun d => by pointwise; exact B.h1 r _)
    · exact fun r d => pay5_apply _ _ _ (ct (n + r)) (sn (n + r)) (fun j => P (n + r) (2048 + (256 * 0 + j))) r d
        (fun d => by pointwise; exact B.h5 r d) (fun d => by pointwise; exact B.h6 r d) (fun d => by pointwise; exact B.h2 r _)
    · intro r e; pointwise; refine (B.h3 r _).trans ?_; simp [vv]
    · intro r e; pointwise; refine (B.h4 r _).trans ?_; simp [gg]
    · intro d e; pointwise; exact hs 0 d e
    · intro r m; pointwise; exact B.h7 0 r m
    · intro r l; pointwise; exact B.h8 0 r l
    exact outAt_split P ct sn lg (n + w0) 0 w1 _ _ (by show n + w0.val = n + (0 + 1 * w0.val); omega)
      (by show 512 * 0 + w1.val = 0 + 1 * w1.val; omega)

/-- The carried state after a point that starts from the state before it. -/
theorem stPieces_canon (B : Blk P ct sn lg n x0 x1 x2 x3 x4 x5 x6 x7 x8 x9) (hs : StAt P ct sn lg n xs) (L : List (View.Piece (Elt Ideal) S8x256x512 .f32)) :
    StAt P ct sn lg (n + 256) (View.canon (stPieces x0 x2 x3 x5 x6 x9 xs ++ L)) := fun h d e =>
  View.canon_append_of_piecesOf _ L _ (stPieces_of B hs) (ix3 h d e)
    (View.cover_of_tiledL (stPieces x0 x2 x3 x5 x6 x9 xs) S1x256x512.size (by sl_kernel_rfl) (ix3 h d e))

/-- The output block of a point that starts from the state before it. -/
theorem outPieces_canon (B : Blk P ct sn lg n x0 x1 x2 x3 x4 x5 x6 x7 x8 x9) (hs : StAt P ct sn lg n xs) (y : S256x4096.Idx) :
    View.canon (outPieces x1 x2 x3 x4 x5 x6 x7 x8 xs) y
      = outAt P ct sn lg (n + (y 0).val) ((y 1).val / 512) ⟨(y 1).val % 512, Nat.mod_lt _ (by decide)⟩ :=
  View.canon_apply_of_pieces (fun y : S256x4096.Idx => outAt P ct sn lg (n + (y 0).val) ((y 1).val / 512) ⟨(y 1).val % 512, Nat.mod_lt _ (by decide)⟩) _ (outPieces_of B hs).mem y
    (View.cover_of_tiledL (outPieces x1 x2 x3 x4 x5 x6 x7 x8 xs) S256x512.size (by sl_kernel_rfl) y)

/-- Before the first position the state is zero. -/
theorem stAt_zero : StAt P ct sn lg 0 (k0_pay2 (F := Ideal)) := by
  intro h d e
  rw [stSum_zero]
  pointwise [k0_pay2]
  rfl
end

end Cert.KernelIdeal.Ret
end
-- ==== Proof.KValue.lean ====
/- The retention kernel's result: the blocks a grid point reads, the state carried from point to point, the array it leaves. -/
module

public import proofs.«01_k».proof.Proof.KTab
public import proofs.«01_k».proof.Proof.KHead
public import Idealize.ShloMosaic.Lib.Pipeline.ValueKit.Point

@[expose] public section
noncomputable section
open Idealize.ShloMosaic Idealize.ShloMosaic.TcCoe Idealize.SL.Sem Idealize.ShloMosaic.StableHlo
namespace Cert.KernelIdeal.Ret
open Cert.KernelIdeal Cert.KernelIdeal.Gen RetM
open Cert.ReferenceIdeal.Ret (ct sn lg projAt projAt_eq)
variable (m : (ℓ : Loc nD τ sig) → Buf (Elt Ideal) ℓ) (c : Dev nD)

set_option maxRecDepth 65536
set_option maxHeartbeats 4000000

theorem idx : ∀ t : Fin cfg0.N, win0_0.index t = ![0] ∧ win0_1.index t = ![t.val, 0] ∧ win0_2.index t = ![t.val, 1] ∧ win0_3.index t = ![t.val, 1]
    ∧ win0_4.index t = ![t.val, 2] ∧ win0_5.index t = ![t.val % 16, 0] ∧ win0_6.index t = ![t.val % 16, 0] ∧ win0_7.index t = ![0, 0, 0]
    ∧ win0_8.index t = ![0, 0, 0] ∧ win0_9.index t = ![0, 0, 0] :=
  (by decide +kernel : ∀ t : Fin grid0.N, _)

/-- The projections a run of the kernel starts from. -/
abbrev X : Vec Ideal S8192x12288 .bf16 := m ((c.tc : Thread nD τ).loc main_arg0)

theorem blk (hX : ∀ i, X m c i = ((X m c i).toReal : EReal)) (t : Fin cfg0.N) :
    Blk (projAt (X m c) (t.val / 16)) ct sn lg ((t.val % 16) * 256) (iblk m c 0 t) (iblk m c 1 t) (iblk m c 2 t) (iblk m c 3 t) (iblk m c 4 t)
      (iblk m c 5 t) (iblk m c 6 t) (iblk m c 7 t) (iblk m c 8 t) (iblk m c 9 t) := by
  have ht : t.val < 32 := lt_of_lt_of_eq t.isLt (show cfg0.N = 32 from N_0)
  constructor
  · intro h
    refine Eq.trans ?_ (cdT m c h)
    blk_ext [iblk, idx t]
  · intro r j
    refine Eq.trans ?_ (projAt_eq (X m c) hX (t.val / 16) ((t.val % 16) * 256 + r) j (t.val / 16 * 4096 + ((t.val % 16) * 256 + r)) (by omega) (by omega) rfl)
    blk_ext [iblk, V_main_arg0, idx t]
  · intro r j
    refine Eq.trans ?_ (projAt_eq (X m c) hX (t.val / 16) ((t.val % 16) * 256 + r) (2048 + j) (t.val / 16 * 4096 + ((t.val % 16) * 256 + r)) (by omega) (by omega) rfl)
    blk_ext [iblk, V_main_arg0, idx t]
  · intro r j
    refine Eq.trans ?_ (projAt_eq (X m c) hX (t.val / 16) ((t.val % 16) * 256 + r) (4096 + j) (t.val / 16 * 4096 + ((t.val % 16) * 256 + r)) (by omega) (by omega) rfl)
    blk_ext [iblk, V_main_arg0, idx t]
  · intro r j
    refine Eq.trans ?_ (projAt_eq (X m c) hX (t.val / 16) ((t.val % 16) * 256 + r) (8192 + j) (t.val / 16 * 4096 + ((t.val % 16) * 256 + r)) (by omega) (by omega) rfl)
    blk_ext [iblk, V_main_arg0, idx t]
  · intro r j
    refine Eq.trans ?_ (cosT m c ⟨(t.val % 16) * 256 + r, by omega⟩ j)
    blk_ext [iblk, idx t]
  · intro r j
    refine Eq.trans ?_ (sinT m c ⟨(t.val % 16) * 256 + r, by omega⟩ j)
    blk_ext [iblk, idx t]
  · intro h r k
    refine Eq.trans ?_ (dmatT m c h r k)
    blk_ext [iblk, idx t]
  · intro h r k
    refine Eq.trans ?_ (xiT m c h r k)
    blk_ext [iblk, idx t]
  · intro h r k
    refine Eq.trans ?_ (zetaT m c h r k)
    blk_ext [iblk, idx t]

/-- What the points up to `t` leave: the state after the last position of the chunk, the chunk's results. -/
theorem acc_inv (hX : ∀ i, X m c i = ((X m c i).toReal : EReal)) : ∀ (n : ℕ) (hn : 0 + n < cfg0.N),
    StAt (projAt (X m c) (n / 16)) ct sn lg ((n % 16) * 256 + 256) (Pipeline.accAt (fun n h => Value.stAt0 m c n h Value.junk0) (Value.stAt0 m c) 0 n hn).2
    ∧ ∀ y : S256x4096.Idx, (Pipeline.accAt (fun n h => Value.stAt0 m c n h Value.junk0) (Value.stAt0 m c) 0 n hn).1 y
        = outAt (projAt (X m c) (n / 16)) ct sn lg ((n % 16) * 256 + (y 0).val) ((y 1).val / 512) ⟨(y 1).val % 512, Nat.mod_lt _ (by decide)⟩ := by
  have stepA : ∀ (t : Fin cfg0.N) (acc), t.val % 16 = 0 →
      StAt (projAt (X m c) (t.val / 16)) ct sn lg ((t.val % 16) * 256 + 256) (Value.stAt0 m c t.val t.isLt acc).2
      ∧ ∀ y : S256x4096.Idx, (Value.stAt0 m c t.val t.isLt acc).1 y
        = outAt (projAt (X m c) (t.val / 16)) ct sn lg ((t.val % 16) * 256 + (y 0).val) ((y 1).val / 512) ⟨(y 1).val % 512, Nat.mod_lt _ (by decide)⟩ := by
    intro t acc h0
    have B := blk m c hX t
    have hz : StAt (projAt (X m c) (t.val / 16)) ct sn lg ((t.val % 16) * 256) (k0_pay2 (F := Ideal)) := by
      rw [h0, Nat.zero_mul]; exact stAt_zero
    rw [Value.stAt0_A m c t acc h0]
    refine ⟨?_, fun y => ?_⟩
    · dsimp only
      rw [sout0_A_0_eq]
      exact stPieces_canon B hz _
    · dsimp only
      rw [out0_A_10_eq]
      exact outPieces_canon B hz y
  intro n
  induction n with
  | zero => intro hn; exact stepA ⟨0, by omega⟩ _ rfl
  | succ n ih =>
    intro hn
    obtain ⟨hs, -⟩ := ih (by omega)
    rw [Pipeline.accAt_succ]
    generalize Pipeline.accAt _ _ 0 n _ = acc at hs
    have e : 0 + (n + 1) = n + 1 := by omega
    by_cases h0 : (n + 1) % 16 = 0
    · have := stepA ⟨n + 1, by omega⟩ acc h0
      simpa only [e] using this
    · have hs' : StAt (projAt (X m c) ((n + 1) / 16)) ct sn lg (((n + 1) % 16) * 256) acc.2 := by
        have e1 : (n + 1) / 16 = n / 16 := by omega
        have e2 : ((n + 1) % 16) * 256 = (n % 16) * 256 + 256 := by omega
        rw [e1, e2]; exact hs
      have B := blk m c hX ⟨n + 1, by omega⟩
      have := Value.stAt0_B m c ⟨n + 1, by omega⟩ acc h0
      simp only [e]
      rw [this]
      refine ⟨?_, fun y => ?_⟩
      · dsimp only
        rw [sout0_B_0_eq, ← List.append_nil (stPieces _ _ _ _ _ _ _)]
        exact stPieces_canon B hs' _
      · dsimp only
        rw [out0_B_10_eq]
        exact outPieces_canon B hs' y

/-- The kernel's array, at an index. -/
theorem G10_eq (hX : ∀ i, X m c i = ((X m c i).toReal : EReal)) (i : S8192x4096.Idx) :
    Value.G10 m c i = outAt (projAt (X m c) ((i 0).val / 4096)) ct sn lg ((i 0).val % 4096) ((i 1).val / 512) ⟨(i 1).val % 512, Nat.mod_lt _ (by decide)⟩ := by
  have h0 : (i 0).val < 8192 := (i 0).isLt
  have h1 : (i 1).val < 4096 := (i 1).isLt
  have hp : Value.pt10Of i = (i 0).val / 256 := by show 1 * ((i 0).val / 256 - 0) + 1 * ((i 1).val / 4096 - 0) = _; omega
  have hN : cfg0.N = 32 := N_0
  have hlt : Value.pt10Of i < cfg0.N := by rw [hp, hN]; omega
  rw [Value.G10, dif_pos hlt, (acc_inv m c hX _ _).2, hp]
  have e0 : ((Value.loc10Of i) 0).val = (i 0).val % 256 := rfl
  have e1 : ((Value.loc10Of i) 1).val = (i 1).val := Nat.mod_eq_of_lt h1
  have a1 : (i 0).val / 256 / 16 = (i 0).val / 4096 := by omega
  have a2 : (i 0).val / 256 % 16 * 256 + (i 0).val % 256 = (i 0).val % 4096 := by omega
  simp only [e0, e1, a1, a2, Nat.mod_eq_of_lt h1]
end Cert.KernelIdeal.Ret
end
-- ==== Proof.RefStep.lean ====
/- One trip of the reference's loop over arrays of extended reals: a chunk read at the trip's number, the next state, the chunk's rows
   and where they are written. -/
module

public import proofs.«01_k».proof.Proof.RetDefs
public import proofs.«01_k».proof.Proof.Gen.ReferenceIdeal.Run
public import Idealize.ShloMosaic.Lib.Pointwise
public import Idealize.ShloMosaic.Lib.DynamicIndex

@[expose] public section
noncomputable section
open Idealize.ShloMosaic
namespace Cert.ReferenceIdeal.Ret
open Cert.ReferenceIdeal Cert.ReferenceIdeal.Gen RetM

/-- The start of chunk `j`: number `j` on the first axis. -/
def AtChunk (st : Fin 5 → Int) (j : ℕ) : Prop := st 0 = j ∧ st 1 = 0 ∧ st 2 = 0 ∧ st 3 = 0 ∧ st 4 = 0

theorem slot_qk (A : Vec Ideal S32x2x8x128x256 .f32) (st : Fin 5 → Int) (j : Fin 32) (hs : AtChunk st j) (b : Fin 2) (h : Fin 8) (r : Fin 128) (d : Fin 256) :
    shapeCast S2x8x128x256 (Host.dynamicSlice S1x2x8x128x256 A st sliceFits_S32x2x8x128x256_S1x2x8x128x256) shapeCasts_S1x2x8x128x256_S2x8x128x256 (ix4 b h r d)
      = A (ix5 j b h r d) := by
  obtain ⟨h0, h1, h2, h3, h4⟩ := hs
  rw [Host.dynamicSlice_eq_extractStridedSlice (s := S32x2x8x128x256) S1x2x8x128x256 A st ![j.val, 0, 0, 0, 0] _
    ⟨rfl, fun a => by fin_cases a <;> simp [S32x2x8x128x256, S1x2x8x128x256]⟩ (fun a => by fin_cases a <;> assumption)]
  pointwise
theorem slot_v (A : Vec Ideal S32x2x8x128x512 .f32) (st : Fin 5 → Int) (j : Fin 32) (hs : AtChunk st j) (b : Fin 2) (h : Fin 8) (r : Fin 128) (d : Fin 512) :
    shapeCast S2x8x128x512 (Host.dynamicSlice S1x2x8x128x512 A st sliceFits_S32x2x8x128x512_S1x2x8x128x512) shapeCasts_S1x2x8x128x512_S2x8x128x512 (ix4 b h r d)
      = A (ix5 j b h r d) := by
  obtain ⟨h0, h1, h2, h3, h4⟩ := hs
  rw [Host.dynamicSlice_eq_extractStridedSlice (s := S32x2x8x128x512) S1x2x8x128x512 A st ![j.val, 0, 0, 0, 0] _
    ⟨rfl, fun a => by fin_cases a <;> simp [S32x2x8x128x512, S1x2x8x128x512]⟩ (fun a => by fin_cases a <;> assumption)]
  pointwise
theorem put_at (O : Vec Ideal S32x2x8x128x512 .f32) (U : Vec Ideal S2x8x128x512 .f32) (st : Fin 5 → Int) (j : Fin 32) (hs : AtChunk st j)
    (i : Fin 32) (b : Fin 2) (h : Fin 8) (r : Fin 128) (d : Fin 512) :
    Host.dynamicUpdateSlice O (broadcastInDim S1x2x8x128x512 ![1, 2, 3, 4] bcast_S2x8x128x512_S1x2x8x128x512_1_2_3_4 U) st updateFits_S32x2x8x128x512_S1x2x8x128x512 (ix5 i b h r d)
      = if i = j then U (ix4 b h r d) else O (ix5 i b h r d) := by
  obtain ⟨h0, h1, h2, h3, h4⟩ := hs
  rw [Host.dynamicUpdateSlice_apply]
  have c0 : Host.clampedStart S32x2x8x128x512 S1x2x8x128x512 rfl st 0 = j.val := Host.clampedStart_of_le (s := S32x2x8x128x512) (t := S1x2x8x128x512) rfl st 0 j.val h0 (show j.val + 1 ≤ 32 from j.2)
  have c1 : Host.clampedStart S32x2x8x128x512 S1x2x8x128x512 rfl st 1 = 0 := Host.clampedStart_of_le (s := S32x2x8x128x512) (t := S1x2x8x128x512) rfl st 1 0 h1 (by decide)
  have c2 : Host.clampedStart S32x2x8x128x512 S1x2x8x128x512 rfl st 2 = 0 := Host.clampedStart_of_le (s := S32x2x8x128x512) (t := S1x2x8x128x512) rfl st 2 0 h2 (by decide)
  have c3 : Host.clampedStart S32x2x8x128x512 S1x2x8x128x512 rfl st 3 = 0 := Host.clampedStart_of_le (s := S32x2x8x128x512) (t := S1x2x8x128x512) rfl st 3 0 h3 (by decide)
  have c4 : Host.clampedStart S32x2x8x128x512 S1x2x8x128x512 rfl st 4 = 0 := Host.clampedStart_of_le (s := S32x2x8x128x512) (t := S1x2x8x128x512) rfl st 4 0 h4 (by decide)
  by_cases hij : i = j
  · subst hij
    rw [if_pos rfl, dif_pos]
    · pointwise
      simp only [c1, c2, c3, c4, Nat.sub_zero]
    · intro a
      fin_cases a
      · exact ⟨c0.le, by show _ < Host.clampedStart _ _ _ _ 0 + 1; rw [c0]; exact Nat.lt_succ_self _⟩
      · exact ⟨by show Host.clampedStart _ _ _ _ 1 ≤ _; rw [c1]; exact Nat.zero_le _, by show _ < Host.clampedStart _ _ _ _ 1 + 2; rw [c1]; exact (Nat.zero_add _).symm ▸ b.2⟩
      · exact ⟨by show Host.clampedStart _ _ _ _ 2 ≤ _; rw [c2]; exact Nat.zero_le _, by show _ < Host.clampedStart _ _ _ _ 2 + 8; rw [c2]; exact (Nat.zero_add _).symm ▸ h.2⟩
      · exact ⟨by show Host.clampedStart _ _ _ _ 3 ≤ _; rw [c3]; exact Nat.zero_le _, by show _ < Host.clampedStart _ _ _ _ 3 + 128; rw [c3]; exact (Nat.zero_add _).symm ▸ r.2⟩
      · exact ⟨by show Host.clampedStart _ _ _ _ 4 ≤ _; rw [c4]; exact Nat.zero_le _, by show _ < Host.clampedStart _ _ _ _ 4 + 512; rw [c4]; exact (Nat.zero_add _).symm ▸ d.2⟩
  · rw [if_neg hij, dif_neg]
    intro hin
    have := hin 0
    rw [show Host.clampedStart S32x2x8x128x512 S1x2x8x128x512 updateFits_S32x2x8x128x512_S1x2x8x128x512.1 st 0 = j.val from c0] at this
    obtain ⟨a1, a2⟩ := this
    refine hij (Fin.ext ?_)
    change j.val ≤ i.val at a1
    change i.val < j.val + 1 at a2
    omega

/-- The state after a chunk. -/
theorem state_at (k v : ℕ → ℕ → ℕ → ℕ → ℝ) (lg : ℕ → ℝ) (n : ℕ)
    (K : Vec Ideal S2x8x128x256 .f32) (V : Vec Ideal S2x8x128x512 .f32) (S : Vec Ideal S2x8x256x512 .f32) (ze : Vec Ideal S8x128 .f32) (cd : Vec Ideal S8 .f32)
    (b : Fin 2) (h : Fin 8) (d : Fin 256) (e : Fin 512)
    (hK : ∀ r : Fin 128, K (ix4 b h r d) = (k b h (n + r) d : EReal)) (hV : ∀ r : Fin 128, V (ix4 b h r e) = (v b h (n + r) e : EReal))
    (hS : S (ix4 b h d e) = (stSum (lg h) (k b h) (v b h) n d e : EReal))
    (hze : ∀ r : Fin 128, ze (ix2 h r) = (Real.exp ((((128 : ℕ) : ℝ) - 1 - (r : ℕ)) * lg h) : EReal)) (hcd : cd (ix1 h) = (Real.exp (((128 : ℕ) : ℝ) * lg h) : EReal)) :
    (addf (mulf (broadcastInDim S2x8x256x512 ![0, 1, 2, 3] bcast_S1x8x1x1_S2x8x256x512_0_1_2_3 (broadcastInDim S1x8x1x1 ![1, 2, 3] bcast_S8x1x1_S1x8x1x1_1_2_3 (broadcastInDim S8x1x1 ![0] bcast_S8_S8x1x1_0 cd))) S) (Host.dotGeneral (F := Ideal) (φ₁ := .f32) (φ₂ := .f32) dot_S2x8x128x256_S2x8x128x512_S2x8x256x512_2_2_3_3_01_01 none (mulf K (broadcastInDim S2x8x128x256 ![0, 1, 2, 3] bcast_S1x8x128x1_S2x8x128x256_0_1_2_3 (broadcastInDim S1x8x128x1 ![1, 2, 3] bcast_S8x128x1_S1x8x128x1_1_2_3 (broadcastInDim S8x128x1 ![0, 1] bcast_S8x128_S8x128x1_0_1 ze)))) V) : Vec Ideal S2x8x256x512 .f32) (ix4 b h d e)
      = (stSum (lg h) (k b h) (v b h) (n + 128) d e : EReal) := by
  rw [← stSum_stepE (lg h) (k b h) (v b h) 128 n d e, ← hcd, ← hS]
  pointwise
  simp only [hK, hV, hze]

/-- The rows of a chunk. -/
theorem rows_at (q k v : ℕ → ℕ → ℕ → ℕ → ℝ) (lg : ℕ → ℝ) (n : ℕ)
    (Q K : Vec Ideal S2x8x128x256 .f32) (V : Vec Ideal S2x8x128x512 .f32) (S : Vec Ideal S2x8x256x512 .f32) (D : Vec Ideal S8x128x128 .f32) (xi : Vec Ideal S8x128 .f32)
    (b : Fin 2) (h : Fin 8) (r : Fin 128) (e : Fin 512)
    (hQ : ∀ d : Fin 256, Q (ix4 b h r d) = (q b h (n + r) d : EReal))
    (hK : ∀ (m : Fin 128) (d : Fin 256), K (ix4 b h m d) = (k b h (n + m) d : EReal)) (hV : ∀ m : Fin 128, V (ix4 b h m e) = (v b h (n + m) e : EReal))
    (hS : ∀ d : Fin 256, S (ix4 b h d e) = (stSum (lg h) (k b h) (v b h) n d e : EReal))
    (hD : ∀ m : Fin 128, D (ix3 h r m) = (dmask (lg h) r m : EReal)) (hxi : xi (ix2 h r) = (Real.exp ((((r : ℕ) : ℝ) + 1) * lg h) : EReal)) :
    (addf (Host.dotGeneral (F := Ideal) (φ₁ := .f32) (φ₂ := .f32) dot_S2x8x128x128_S2x8x128x512_S2x8x128x512_3_2_2_3_01_01 none (mulf (Host.dotGeneral (F := Ideal) (φ₁ := .f32) (φ₂ := .f32) dot_S2x8x128x256_S2x8x128x256_S2x8x128x128_3_3_2_2_01_01 none Q K) (broadcastInDim S2x8x128x128 ![0, 1, 2, 3] bcast_S1x8x128x128_S2x8x128x128_0_1_2_3 (broadcastInDim S1x8x128x128 ![1, 2, 3] bcast_S8x128x128_S1x8x128x128_1_2_3 D))) V) (mulf (Host.dotGeneral (F := Ideal) (φ₁ := .f32) (φ₂ := .f32) dot_S2x8x128x256_S2x8x256x512_S2x8x128x512_3_2_2_3_01_01 none Q S) (broadcastInDim S2x8x128x512 ![0, 1, 2, 3] bcast_S1x8x128x1_S2x8x128x512_0_1_2_3 (broadcastInDim S1x8x128x1 ![1, 2, 3] bcast_S8x128x1_S1x8x128x1_1_2_3 (broadcastInDim S8x128x1 ![0, 1] bcast_S8x128_S8x128x1_0_1 xi)))) : Vec Ideal S2x8x128x512 .f32) (ix4 b h r e)
      = (outSum 256 (lg h) (q b h) (k b h) (v b h) (n + r) e : EReal) := by
  rw [← outSum_stepE 256 (lg h) (q b h) (k b h) (v b h) 128 n r e r.2]
  pointwise
  simp only [hQ, hK, hV, hS, hD, hxi]
end Cert.ReferenceIdeal.Ret
end
-- ==== Proof.RefChunk.lean ====
/- The reference's queries, keys and values, cut into chunks of 128, at an index. -/
module

public import proofs.«01_k».proof.Proof.RetTab

@[expose] public section
noncomputable section
open Idealize.ShloMosaic
namespace Cert.ReferenceIdeal.Ret
open Cert.ReferenceIdeal Cert.ReferenceIdeal.Gen Cert.ReferenceIdeal.Step RetM

theorem swap_qk (A : Vec Ideal S2x32x128x8x256 .f32) (j : Fin 32) (b : Fin 2) (h : Fin 8) (r : Fin 128) (d : Fin 256) :
    transpose S32x2x8x128x256 [1, 0, 3, 2, 4] A transposes_S2x32x128x8x256_S32x2x8x128x256_1_0_3_2_4 (ix5 j b h r d) = A (ix5 b j r h d) := by
  pointwise
theorem cut_qk (A : Vec Ideal S2x4096x8x256 .f32) (j : Fin 32) (b : Fin 2) (h : Fin 8) (r : Fin 128) (d : Fin 256) :
    shapeCast S2x32x128x8x256 A shapeCasts_S2x4096x8x256_S2x32x128x8x256 (ix5 b j r h d) = A (ix4 b ⟨j * 128 + r, by omega⟩ h d) := by
  pointwise
theorem swap_v (A : Vec Ideal S2x32x128x8x512 .f32) (j : Fin 32) (b : Fin 2) (h : Fin 8) (r : Fin 128) (d : Fin 512) :
    transpose S32x2x8x128x512 [1, 0, 3, 2, 4] A transposes_S2x32x128x8x512_S32x2x8x128x512_1_0_3_2_4 (ix5 j b h r d) = A (ix5 b j r h d) := by
  pointwise
theorem cut_v (A : Vec Ideal S2x4096x8x512 .f32) (j : Fin 32) (b : Fin 2) (h : Fin 8) (r : Fin 128) (d : Fin 512) :
    shapeCast S2x32x128x8x512 A shapeCasts_S2x4096x8x512_S2x32x128x8x512 (ix5 b j r h d) = A (ix4 b ⟨j * 128 + r, by omega⟩ h d) := by
  pointwise

theorem a6_at (X : Vec Ideal S8192x12288 .bf16) (b : Fin 2) (n : Fin 4096) (h : Fin 8) (d : Fin 256) :
    A_main_v6 X (ix4 b n h d) = X (ix2 ⟨b * 4096 + n, by omega⟩ ⟨h * 256 + d, by omega⟩) := by
  pointwise [A_main_v6, A_main_v2, A_main_v1, A_main_v0]
theorem a9_at (X : Vec Ideal S8192x12288 .bf16) (b : Fin 2) (n : Fin 4096) (h : Fin 8) (d : Fin 256) :
    A_main_v9 X (ix4 b n h d) = X (ix2 ⟨b * 4096 + n, by omega⟩ ⟨2048 + (h * 256 + d), by omega⟩) * Ideal.ofBits .f32 0x3D800000#32 := by
  pointwise [A_main_v9, A_main_v7, A_main_v3, A_main_v1, A_main_v0, K_main_v8, K_main_cst]
theorem a10_at (X : Vec Ideal S8192x12288 .bf16) (b : Fin 2) (n : Fin 4096) (h : Fin 8) (e : Fin 512) :
    A_main_v10 X (ix4 b n h e) = X (ix2 ⟨b * 4096 + n, by omega⟩ ⟨4096 + (h * 512 + e), by omega⟩) := by
  pointwise [A_main_v10, A_main_v4, A_main_v1, A_main_v0]

/-- The rotation of an array's last axis, at an index. -/
theorem rot_q (X : Vec Ideal S8192x12288 .bf16) (x : ℕ → ℝ) (b : Fin 2) (n : Fin 4096) (h : Fin 8)
    (hx : ∀ d : Fin 256, A_main_v6 X (ix4 b n h d) = (x d : EReal)) (d : Fin 256) :
    A_main_v38 X (ix4 b n h d) = (rot (ct n) (sn n) x d : EReal) := by
  unfold A_main_v38 A_main_v37 A_main_v36 A_main_v34 A_main_v32 A_main_v31 A_main_v29 A_main_v25 A_main_v24
  generalize A_main_v6 X = A at hx ⊢
  pointwise [K_main_v26, K_main_v27, K_main_v28, K_main_v30, K_main_v33, K_main_v35]
  unfold rot
  split_ifs with hd
  rotate_right
  · exact absurd rfl ‹¬ _›
  · rw [cos_eq n ⟨d, hd⟩, sin_eq n ⟨d, hd⟩, EReal.coe_sub, EReal.coe_mul, EReal.coe_mul]
    exact congrArg₂ (· - ·) (congrArg (· * _) (hx ⟨d, _⟩)) (congrArg (· * _) (hx ⟨128 + d, _⟩))
  · rw [cos_eq n ⟨d - 128, by omega⟩, sin_eq n ⟨d - 128, by omega⟩, EReal.coe_add, EReal.coe_mul, EReal.coe_mul]
    exact congrArg₂ (· + ·) (congrArg (· * _) (hx ⟨d - 128, _⟩)) (congrArg (· * _) (hx ⟨128 + (d - 128), _⟩))
theorem rot_k (X : Vec Ideal S8192x12288 .bf16) (x : ℕ → ℝ) (b : Fin 2) (n : Fin 4096) (h : Fin 8)
    (hx : ∀ d : Fin 256, A_main_v9 X (ix4 b n h d) = (x d : EReal)) (d : Fin 256) :
    A_main_v53 X (ix4 b n h d) = (rot (ct n) (sn n) x d : EReal) := by
  unfold A_main_v53 A_main_v52 A_main_v51 A_main_v49 A_main_v47 A_main_v46 A_main_v44 A_main_v40 A_main_v39
  generalize A_main_v9 X = A at hx ⊢
  pointwise [K_main_v41, K_main_v42, K_main_v43, K_main_v45, K_main_v48, K_main_v50]
  unfold rot
  split_ifs with hd
  rotate_right
  · exact absurd rfl ‹¬ _›
  · rw [cos_eq n ⟨d, hd⟩, sin_eq n ⟨d, hd⟩, EReal.coe_sub, EReal.coe_mul, EReal.coe_mul]
    exact congrArg₂ (· - ·) (congrArg (· * _) (hx ⟨d, _⟩)) (congrArg (· * _) (hx ⟨128 + d, _⟩))
  · rw [cos_eq n ⟨d - 128, by omega⟩, sin_eq n ⟨d - 128, by omega⟩, EReal.coe_add, EReal.coe_mul, EReal.coe_mul]
    exact congrArg₂ (· + ·) (congrArg (· * _) (hx ⟨d - 128, _⟩)) (congrArg (· * _) (hx ⟨128 + (d - 128), _⟩))

variable (X : Vec Ideal S8192x12288 .bf16) (hX : ∀ i, X i = ((X i).toReal : EReal))
include hX

theorem q_eq (b : Fin 2) (n : Fin 4096) (h : Fin 8) (d : Fin 256) : A_main_v38 X (ix4 b n h d) = (qq (projAt X b) ct sn h n d : EReal) := by
  refine rot_q X (fun j => projAt X b n (256 * h + j)) b n h (fun d => ?_) d
  rw [a6_at, projAt_eq X hX b n _ _ _ _ rfl, Nat.mul_comm 256]
theorem k_eq (b : Fin 2) (n : Fin 4096) (h : Fin 8) (d : Fin 256) : A_main_v53 X (ix4 b n h d) = (kk (projAt X b) ct sn h n d : EReal) := by
  refine rot_k X (fun j => projAt X b n (2048 + (256 * h + j)) * (1 / 16)) b n h (fun d => ?_) d
  rw [a9_at, projAt_eq X hX b n _ _ _ _ rfl, Nat.mul_comm 256, lit_sixteenth, ← EReal.coe_mul]
theorem v_eq (b : Fin 2) (n : Fin 4096) (h : Fin 8) (e : Fin 512) : A_main_v10 X (ix4 b n h e) = (vv (projAt X b) h n e : EReal) := by
  rw [a10_at, projAt_eq X hX b n _ _ _ _ rfl, vv, Nat.mul_comm 512]

theorem qc_eq (j : Fin 32) (b : Fin 2) (h : Fin 8) (r : Fin 128) (d : Fin 256) : A_main_v99 X (ix5 j b h r d) = (qq (projAt X b) ct sn h (128 * j + r) d : EReal) := by
  refine (swap_qk _ j b h r d).trans ((cut_qk _ j b h r d).trans ((q_eq X hX b _ h d).trans ?_))
  rw [Nat.mul_comm 128]
theorem kc_eq (j : Fin 32) (b : Fin 2) (h : Fin 8) (r : Fin 128) (d : Fin 256) : A_main_v101 X (ix5 j b h r d) = (kk (projAt X b) ct sn h (128 * j + r) d : EReal) := by
  refine (swap_qk _ j b h r d).trans ((cut_qk _ j b h r d).trans ((k_eq X hX b _ h d).trans ?_))
  rw [Nat.mul_comm 128]
theorem vc_eq (j : Fin 32) (b : Fin 2) (h : Fin 8) (r : Fin 128) (e : Fin 512) : A_main_v103 X (ix5 j b h r e) = (vv (projAt X b) h (128 * j + r) e : EReal) := by
  refine (swap_v _ j b h r e).trans ((cut_v _ j b h r e).trans ((v_eq X hX b _ h e).trans ?_))
  rw [Nat.mul_comm 128]
end Cert.ReferenceIdeal.Ret
end
-- ==== Proof.RefEntry.lean ====
module

public import proofs.«01_k».proof.Proof.Gen.ReferenceIdeal.Run
public import proofs.«01_k».proof.Proof.Gen.ReferenceIdeal.Step

@[expose] public section
noncomputable section
open Idealize.ShloMosaic Idealize.ShloMosaic.TcCoe Idealize.SL.Sem Idealize.ShloMosaic.StableHlo
namespace Cert.ReferenceIdeal.Ret
open Cert.ReferenceIdeal Cert.ReferenceIdeal.Gen Cert.ReferenceIdeal.Value Cert.ReferenceIdeal.Step
variable {F : FTy → Type} [FloatOps F]
variable (m : (ℓ : Loc nD τ sig) → Buf (Elt F) ℓ) (c : Dev nD)

set_option maxRecDepth 65536
set_option maxHeartbeats 4000000

theorem entry0 : entryContents preI m c (Proc.devRef .tc main_v106_0) = A_main_v99 (m ((c.tc : Thread nD τ).loc main_arg0)) := by
  simp only [entryContents, afterL_cons, afterL_nil]
  after_reads_simp
  rfl
theorem entry1 : entryContents preI m c (Proc.devRef .tc main_v106_1) = A_main_v101 (m ((c.tc : Thread nD τ).loc main_arg0)) := by
  simp only [entryContents, afterL_cons, afterL_nil]
  after_reads_simp
  rfl
theorem entry2 : entryContents preI m c (Proc.devRef .tc main_v106_2) = A_main_v103 (m ((c.tc : Thread nD τ).loc main_arg0)) := by
  simp only [entryContents, afterL_cons, afterL_nil]
  after_reads_simp
  rfl
theorem entry3 : entryContents preI m c (Proc.devRef .tc main_v106_3) = K_main_v78 (F := F) := by
  simp only [entryContents, afterL_cons, afterL_nil]
  after_reads_simp
  rfl
theorem entry4 : entryContents preI m c (Proc.devRef .tc main_v106_4) = K_main_v86 (F := F) := by
  simp only [entryContents, afterL_cons, afterL_nil]
  after_reads_simp
  rfl
theorem entry5 : entryContents preI m c (Proc.devRef .tc main_v106_5) = K_main_v97 (F := F) := by
  simp only [entryContents, afterL_cons, afterL_nil]
  after_reads_simp
  rfl
theorem entry6 : entryContents preI m c (Proc.devRef .tc main_v106_6) = K_main_v94 (F := F) := by
  simp only [entryContents, afterL_cons, afterL_nil]
  after_reads_simp
  rfl
theorem entry8 : entryContents preI m c (Proc.devRef .tc main_v106_8) = K_main_v104 (F := F) := by
  simp only [entryContents, afterL_cons, afterL_nil]
  after_reads_simp
  rfl
end Cert.ReferenceIdeal.Ret
end
-- ==== Proof.RefLoop.lean ====
/- The reference's loop: what the carried arrays hold after `k` chunks. -/
module

public import proofs.«01_k».proof.Proof.RefStep
public import proofs.«01_k».proof.Proof.RefChunk
public import proofs.«01_k».proof.Proof.RefEntry

@[expose] public section
noncomputable section
open Idealize.ShloMosaic Idealize.ShloMosaic.TcCoe Idealize.SL.Sem Idealize.ShloMosaic.StableHlo
namespace Cert.ReferenceIdeal.Ret
open Cert.ReferenceIdeal Cert.ReferenceIdeal.Gen Cert.ReferenceIdeal.Value Cert.ReferenceIdeal.Step RetM

/-- The carried state and the rows written so far, as arrays. -/
abbrev st8 (V : Valuation τ sig (Elt Ideal)) : Vec Ideal S2x8x256x512 .f32 := V (Proc.devRef .tc main_v106_8)
abbrev rows9 (V : Valuation τ sig (Elt Ideal)) : Vec Ideal S32x2x8x128x512 .f32 := V (Proc.devRef .tc main_v106_9)

/-- After `k` chunks: the arrays the loop only reads, the counter, the state of the first `128 k` positions, their rows. -/
structure Inv (X : Vec Ideal S8192x12288 .bf16) (V : Valuation τ sig (Elt Ideal)) (k : ℕ) : Prop where
  hq : V (Proc.devRef .tc main_v106_0) = A_main_v99 X
  hk : V (Proc.devRef .tc main_v106_1) = A_main_v101 X
  hv : V (Proc.devRef .tc main_v106_2) = A_main_v103 X
  dm : V (Proc.devRef .tc main_v106_3) = K_main_v78 (F := Ideal)
  xi : V (Proc.devRef .tc main_v106_4) = K_main_v86 (F := Ideal)
  cd : V (Proc.devRef .tc main_v106_5) = K_main_v97 (F := Ideal)
  ze : V (Proc.devRef .tc main_v106_6) = K_main_v94 (F := Ideal)
  ctr : V (Proc.devRef .tc main_v106_7) = fun _ => BitVec.ofNat 32 k
  st : ∀ (b : Fin 2) (h : Fin 8) (d : Fin 256) (e : Fin 512),
    st8 V (ix4 b h d e) = (stSum (lg h) (kk (projAt X b) ct sn h) (vv (projAt X b) h) (128 * k) d e : EReal)
  out : ∀ (j : Fin 32), j.val < k → ∀ (b : Fin 2) (h : Fin 8) (r : Fin 128) (e : Fin 512),
    rows9 V (ix5 j b h r e) = (oo (projAt X b) ct sn lg h (128 * j + r) e : EReal)

theorem starts_at (C : IVec S_ 32) (j : Fin 32) (hc : C = fun _ => BitVec.ofNat 32 j) :
    AtChunk (fun k => ((![C, constantI S_ 32 0#32, constantI S_ 32 0#32, constantI S_ 32 0#32, constantI S_ 32 0#32] : Fin 5 → (⟨S_, .i32⟩ : BufTy).Contents (Elt Ideal)) k (Shape.Idx.first h_S_)).toInt) j := by
  subst hc
  refine ⟨?_, rfl, rfl, rfl, rfl⟩
  show (BitVec.ofNat 32 j.val).toInt = (j.val : Int)
  have := j.2
  rw [BitVec.toInt_eq_toNat_of_lt (by rw [BitVec.toNat_ofNat]; omega), BitVec.toNat_ofNat, Nat.mod_eq_of_lt (by omega)]

variable (X : Vec Ideal S8192x12288 .bf16) (hX : ∀ i, X i = ((X i).toReal : EReal))
include hX

theorem inv_step (V : Valuation τ sig (Elt Ideal)) (j : Fin 32) (I : Inv X V j) : Inv X (STEP V) (j + 1) := by
  have hs := starts_at (V (Proc.devRef .tc main_v106_7)) j I.ctr
  have hq : ∀ (b : Fin 2) (h : Fin 8) (r : Fin 128) (d : Fin 256), (res_main_while0b_v138 V : Vec Ideal S2x8x128x256 .f32) (ix4 b h r d) = (qq (projAt X b) ct sn h (128 * j + r) d : EReal) := fun b h r d => by
    refine (slot_qk _ _ j hs b h r d).trans ?_
    rw [I.hq]; exact qc_eq X hX j b h r d
  have hk : ∀ (b : Fin 2) (h : Fin 8) (r : Fin 128) (d : Fin 256), (res_main_while0b_v139 V : Vec Ideal S2x8x128x256 .f32) (ix4 b h r d) = (kk (projAt X b) ct sn h (128 * j + r) d : EReal) := fun b h r d => by
    refine (slot_qk _ _ j hs b h r d).trans ?_
    rw [I.hk]; exact kc_eq X hX j b h r d
  have hv : ∀ (b : Fin 2) (h : Fin 8) (r : Fin 128) (e : Fin 512), (res_main_while0b_v140 V : Vec Ideal S2x8x128x512 .f32) (ix4 b h r e) = (vv (projAt X b) h (128 * j + r) e : EReal) := fun b h r d => by
    refine (slot_v _ _ j hs b h r d).trans ?_
    rw [I.hv]; exact vc_eq X hX j b h r d
  refine ⟨(STEP_main_v106_0 V).trans I.hq, (STEP_main_v106_1 V).trans I.hk, (STEP_main_v106_2 V).trans I.hv, (STEP_main_v106_3 V).trans I.dm,
    (STEP_main_v106_4 V).trans I.xi, (STEP_main_v106_5 V).trans I.cd, (STEP_main_v106_6 V).trans I.ze, (STEP_main_v106_7 V).trans ?_, fun b h d e => ?_, fun i hi b h r e => ?_⟩
  · unfold step_main_v106_7
    rw [I.ctr]
    funext i
    show BitVec.ofNat 32 j.val + 1#32 = BitVec.ofNat 32 (j.val + 1)
    simp only [BitVec.ofNat_add]
  · refine (congrFun (STEP_main_v106_8 V) (ix4 b h d e)).trans ?_
    exact state_at (fun b h => kk (projAt X b) ct sn h) (fun b h => vv (projAt X b) h) lg (128 * j) (res_main_while0b_v139 V) (res_main_while0b_v140 V)
      (st8 V) (V (Proc.devRef .tc main_v106_6)) (V (Proc.devRef .tc main_v106_5)) b h d e (fun r => hk b h r d) (fun r => hv b h r e) (I.st b h d e)
      (fun r => by rw [I.ze]; exact zeta_eq h r) (by rw [I.cd]; exact cd_eq h)
  · refine (congrFun (STEP_main_v106_9 V) (ix5 i b h r e)).trans ?_
    refine (put_at (rows9 V) _ _ j hs i b h r e).trans ?_
    split_ifs with hij
    · subst hij
      exact rows_at (fun b h => qq (projAt X b) ct sn h) (fun b h => kk (projAt X b) ct sn h) (fun b h => vv (projAt X b) h) lg (128 * i)
        (res_main_while0b_v138 V) (res_main_while0b_v139 V) (res_main_while0b_v140 V) (st8 V) (V (Proc.devRef .tc main_v106_3)) (V (Proc.devRef .tc main_v106_4)) b h r e
        (fun d => hq b h r d) (fun m d => hk b h m d) (fun m => hv b h m e) (fun d => I.st b h d e)
        (fun m => by rw [I.dm]; exact dmat_eq h r m) (by rw [I.xi]; exact xi_eq h r)
    · exact I.out i (by have : i.val ≠ j.val := fun e => hij (Fin.ext e); omega) b h r e

theorem inv_entry (m : (ℓ : Loc nD τ sig) → Buf (Elt Ideal) ℓ) (c : Dev nD) (hm : m ((c.tc : Thread nD τ).loc main_arg0) = X) :
    Inv X (entryContents preI m c) 0 := by
  subst hm
  refine ⟨entry0 m c, entry1 m c, entry2 m c, entry3 m c, entry4 m c, entry5 m c, entry6 m c, ctr_entry m c, fun b h d e => ?_, fun j hj => absurd hj (Nat.not_lt_zero _)⟩
  refine (congrFun (entry8 m c) (ix4 b h d e)).trans ?_
  rw [Nat.mul_zero, stSum_zero]
  show K_main_v104 (F := Ideal) (ix4 b h d e) = _
  pointwise [K_main_v104, K_main_cst_12]
  exact EReal.coe_zero.symm

theorem inv_iter (m : (ℓ : Loc nD τ sig) → Buf (Elt Ideal) ℓ) (c : Dev nD) (hm : m ((c.tc : Thread nD τ).loc main_arg0) = X) :
    ∀ k, k ≤ 32 → Inv X (STEP^[k] (entryContents preI m c)) k
  | 0, _ => inv_entry X hX m c hm
  | k + 1, h => by
    rw [Function.iterate_succ_apply']
    exact inv_step X hX _ ⟨k, h⟩ (inv_iter m c hm k (Nat.le_of_succ_le h))
end Cert.ReferenceIdeal.Ret
end
-- ==== Proof.RefOut.lean ====
/- The operations after the reference's loop: the group norm and the gate, at an index. -/
module

public import proofs.«01_k».proof.Proof.RetDefs
public import proofs.«01_k».proof.Proof.RetTab
public import proofs.«01_k».proof.Proof.Gen.ReferenceIdeal.Run
public import Idealize.ShloMosaic.Lib.Pointwise

@[expose] public section
noncomputable section
open Idealize.ShloMosaic Idealize.ShloMosaic.TcCoe Idealize.SL.Sem Idealize.ShloMosaic.StableHlo
namespace Cert.ReferenceIdeal.Ret
open Cert.ReferenceIdeal Cert.ReferenceIdeal.Gen Cert.ReferenceIdeal.Value RetM

theorem join_at (O : Vec Ideal S32x2x8x128x512 .f32) (b : Fin 2) (n : Fin 4096) (h : Fin 8) (e : Fin 512) :
    shapeCast S2x4096x8x512 (transpose S2x32x128x8x512 [1, 0, 3, 2, 4] O transposes_S32x2x8x128x512_S2x32x128x8x512_1_0_3_2_4) shapeCasts_S2x32x128x8x512_S2x4096x8x512 (ix4 b n h e)
      = O (ix5 ⟨n / 128, by omega⟩ b h ⟨n % 128, Nat.mod_lt _ (by decide)⟩ e) := by
  pointwise

theorem g_at (X : Vec Ideal S8192x12288 .bf16) (b : Fin 2) (n : Fin 4096) (c : Fin 4096) :
    (extractStridedSlice S2x4096x4096 ![0, 0, 8192] (shapeCast S2x4096x12288 (extf (F := Ideal) .f32 X bitsLt_bf16_f32) shapeCasts_S8192x12288_S2x4096x12288) slices_S2x4096x12288_S2x4096x4096_0_0_8192 : Vec Ideal S2x4096x4096 .f32) (ix3 b n c)
      = X (ix2 ⟨b * 4096 + n, by omega⟩ ⟨8192 + c, by omega⟩) := by
  pointwise

theorem norm_at (Y : Vec Ideal S2x4096x8x512 .f32) (b : Fin 2) (n : Fin 4096) (h : Fin 8) (e : Fin 512) :
    ((mulf (F := Ideal) (φ := .f32) (subf (F := Ideal) (φ := .f32) Y (broadcastInDim S2x4096x8x512 ![0, 1, 2, 3] bcast_S2x4096x8x1_S2x4096x8x512_0_1_2_3 (Host.divf (F := Ideal) (φ := .f32) (broadcastInDim S2x4096x8x1 ![0, 1, 2] bcast_S2x4096x8_S2x4096x8x1_0_1_2 (Host.reduceAdd (F := Ideal) (φ := .f32) Y (constant (F := Ideal) S_ .f32 0x00000000#32) reducesTo_S2x4096x8x512_S2x4096x8_d3 h_S_)) (broadcastInDim S2x4096x8x1 ![] bcast_S_S2x4096x8x1 (constant (F := Ideal) S_ .f32 0x44000000#32))))) (broadcastInDim S2x4096x8x512 ![0, 1, 2, 3] bcast_S2x4096x8x1_S2x4096x8x512_0_1_2_3 (Host.rsqrt (F := Ideal) (φ := .f32) (addf (F := Ideal) (φ := .f32) (Host.divf (F := Ideal) (φ := .f32) (broadcastInDim S2x4096x8x1 ![0, 1, 2] bcast_S2x4096x8_S2x4096x8x1_0_1_2 (Host.reduceAdd (F := Ideal) (φ := .f32) (mulf (F := Ideal) (φ := .f32) (subf (F := Ideal) (φ := .f32) Y (broadcastInDim S2x4096x8x512 ![0, 1, 2, 3] bcast_S2x4096x8x1_S2x4096x8x512_0_1_2_3 (Host.divf (F := Ideal) (φ := .f32) (broadcastInDim S2x4096x8x1 ![0, 1, 2] bcast_S2x4096x8_S2x4096x8x1_0_1_2 (Host.reduceAdd (F := Ideal) (φ := .f32) Y (constant (F := Ideal) S_ .f32 0x00000000#32) reducesTo_S2x4096x8x512_S2x4096x8_d3 h_S_)) (broadcastInDim S2x4096x8x1 ![] bcast_S_S2x4096x8x1 (constant (F := Ideal) S_ .f32 0x44000000#32))))) (subf (F := Ideal) (φ := .f32) Y (broadcastInDim S2x4096x8x512 ![0, 1, 2, 3] bcast_S2x4096x8x1_S2x4096x8x512_0_1_2_3 (Host.divf (F := Ideal) (φ := .f32) (broadcastInDim S2x4096x8x1 ![0, 1, 2] bcast_S2x4096x8_S2x4096x8x1_0_1_2 (Host.reduceAdd (F := Ideal) (φ := .f32) Y (constant (F := Ideal) S_ .f32 0x00000000#32) reducesTo_S2x4096x8x512_S2x4096x8_d3 h_S_)) (broadcastInDim S2x4096x8x1 ![] bcast_S_S2x4096x8x1 (constant (F := Ideal) S_ .f32 0x44000000#32)))))) (constant (F := Ideal) S_ .f32 0x00000000#32) reducesTo_S2x4096x8x512_S2x4096x8_d3 h_S_)) (broadcastInDim S2x4096x8x1 ![] bcast_S_S2x4096x8x1 (constant (F := Ideal) S_ .f32 0x44000000#32))) (broadcastInDim S2x4096x8x1 ![] bcast_S_S2x4096x8x1 (constant (F := Ideal) S_ .f32 0x3727C5AC#32)))))) : Vec Ideal S2x4096x8x512 .f32) (ix4 b n h e) = normT (fun e => Y (ix4 b n h e)) e := by
  unfold normT
  pointwise

theorem gate_at (G : Vec Ideal S2x4096x4096 .f32) (N : Vec Ideal S2x4096x8x512 .f32) (i : Fin 8192) (c : Fin 4096) :
    (truncf (F := Ideal) (φ := .f32) .bf16 (shapeCast S8192x4096 (mulf (F := Ideal) (φ := .f32) (mulf (F := Ideal) (φ := .f32) G (Host.divf (F := Ideal) (φ := .f32) (broadcastInDim S2x4096x4096 ![] bcast_S_S2x4096x4096 (constant (F := Ideal) S_ .f32 0x3F800000#32)) (addf (F := Ideal) (φ := .f32) (broadcastInDim S2x4096x4096 ![] bcast_S_S2x4096x4096 (constant (F := Ideal) S_ .f32 0x3F800000#32)) (Host.exp (F := Ideal) (φ := .f32) (Host.negf (F := Ideal) (φ := .f32) G))))) (shapeCast S2x4096x4096 N shapeCasts_S2x4096x8x512_S2x4096x4096)) shapeCasts_S2x4096x4096_S8192x4096) bitsLt_bf16_f32 : Vec Ideal S8192x4096 .bf16) (ix2 i c)
      = G (ix3 ⟨i / 4096, by omega⟩ ⟨i % 4096, Nat.mod_lt _ (by decide)⟩ c) * Ideal.div 1 (1 + Ideal.exp (-G (ix3 ⟨i / 4096, by omega⟩ ⟨i % 4096, Nat.mod_lt _ (by decide)⟩ c)))
        * N (ix4 ⟨i / 4096, by omega⟩ ⟨i % 4096, Nat.mod_lt _ (by decide)⟩ ⟨c / 512, by omega⟩ ⟨c % 512, Nat.mod_lt _ (by decide)⟩) := by
  pointwise

theorem out_at (V : Valuation τ sig (Elt Ideal)) (X : Vec Ideal S8192x12288 .bf16) (hX : ∀ i, X i = ((X i).toReal : EReal)) (hA : V (Proc.devRef .tc main_arg0) = X)
    (hO : ∀ (j : Fin 32) (b : Fin 2) (h : Fin 8) (r : Fin 128) (e : Fin 512),
      (V (Proc.devRef .tc main_v106_9) : Vec Ideal S32x2x8x128x512 .f32) (ix5 j b h r e) = (oo (projAt X b) ct sn lg h (128 * j + r) e : EReal))
    (i : S8192x4096.Idx) :
    (out_main_v137 V : Vec Ideal S8192x4096 .bf16) i
      = outAt (projAt X ((i 0).val / 4096)) ct sn lg ((i 0).val % 4096) ((i 1).val / 512) ⟨(i 1).val % 512, Nat.mod_lt _ (by decide)⟩ := by
  idx_vars i
  show _ = outAt (projAt X (i0.val / 4096)) ct sn lg (i0.val % 4096) (i1.val / 512) ⟨i1.val % 512, Nat.mod_lt _ (by decide)⟩
  refine (gate_at _ _ i0 i1).trans ?_
  rw [hA, g_at, norm_at, projAt_eq X hX (i0.val / 4096) (i0.val % 4096) _ _ _ _ rfl, gate_logistic]
  refine congrArg₂ (· * ·) (congrArg silu ?_) (congrFun (congrArg normT (funext fun e => ?_)) _)
  · show projAt X _ _ _ = projAt X _ _ _
    congr 1
    show 8192 + i1.val = 8192 + (512 * (i1.val / 512) + i1.val % 512)
    omega
  · refine (join_at _ _ _ _ _).trans ((hO _ _ _ _ _).trans ?_)
    show (oo _ _ _ _ _ (128 * (i0.val % 4096 / 128) + i0.val % 4096 % 128) _ : EReal) = _
    rw [Nat.div_add_mod]
end Cert.ReferenceIdeal.Ret
end
-- ==== Proof.MlpMath.lean ====
/- The last MLP and its layer norm, written over plain functions. -/
module

public import Idealize.ShloMosaic.Lib.Pointwise

@[expose] public section
noncomputable section
open Idealize.ShloMosaic
namespace MlpM

/-- The mean of a row of 2048 entries, with the printed count as divisor. -/
def meanAt (v : Fin 2048 → EReal) : EReal := Ideal.div (∑ x, v x) (Ideal.ofBits FTy.f32 0x45000000#32)

/-- A row, normalised, at an entry. -/
def lnAt (v : Fin 2048 → EReal) (g b : EReal) (q : Fin 2048) : EReal :=
  (v q - meanAt v) * Ideal.rsqrt (meanAt (fun x => (v x - meanAt v) * (v x - meanAt v)) + Ideal.ofBits FTy.f32 0x3727C5AC#32) * g + b

/-- The residual sum of the MLP at an entry: the weighted input plus the product of the squared positive parts with the second weights. -/
def resAt (X : Fin 8192 → Fin 2048 → EReal) (W1 : Fin 2048 → Fin 8192 → EReal) (W2 : Fin 8192 → Fin 2048 → EReal) (r : Fin 8192) (q : Fin 2048) : EReal :=
  Ideal.ofBits FTy.f32 0x3FD744FD#32 * X r q
    + ∑ k : Fin 8192, (max (∑ d, X r d * W1 d k) 0 * max (∑ d, X r d * W1 d k) 0) * W2 k q

end MlpM
end
-- ==== Proof.MlpOpen.lean ====
/- What one grid point of the MLP leaves in its output block. -/
module

public import proofs.«01_k».proof.Proof.Gen.Kernel2Ideal.Value
public import proofs.«01_k».proof.Proof.MlpMath
public import Idealize.ShloMosaic.Lib.Tactic
public import Idealize.ShloMosaic.Lib.Pipeline.Value
public import Idealize.ShloMosaic.Lib.Pipeline.ReadBack
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
namespace Cert.Kernel2Ideal.Mlp
open Cert.Kernel2Ideal Cert.Kernel2Ideal.Gen MlpM

/-- The squared positive part of a row's product with a column of the first weights' block. -/
def hidB (x0 : Vec Ideal S1024x2048 .f32) (x1 : Vec Ideal S1x2048x512 .f32) (p : Fin 1024) (k : Fin 512) : EReal :=
  max (∑ d : Fin 2048, x0 (ix2 p d) * x1 (ix3 0 d k)) 0 * max (∑ d : Fin 2048, x0 (ix2 p d) * x1 (ix3 0 d k)) 0

/-- What a grid point adds to an entry of its output block. -/
def addB (x0 : Vec Ideal S1024x2048 .f32) (x1 : Vec Ideal S1x2048x512 .f32) (x2 : Vec Ideal S1x512x2048 .f32) (p : Fin 1024) (q : Fin 2048) : EReal :=
  ∑ k : Fin 512, hidB x0 x1 p k * x2 (ix3 0 k q)

theorem pay5_at (x0 : Vec Ideal S1024x2048 .f32) (x1 : Vec Ideal S1x2048x512 .f32) (p : Fin 1024) (k : Fin 512) :
    k0_pay5 x0 x1 (ix2 p k) = hidB x0 x1 p k := by
  unfold k0_pay5 hidB
  pointwise
  try rfl

/-- The four column slabs that a grid point stores, the last first. -/
def slabs (x0 : Vec Ideal S1024x2048 .f32) (x1 : Vec Ideal S1x2048x512 .f32) (x2 : Vec Ideal S1x512x2048 .f32) (xo : Vec Ideal S1024x2048 .f32) : List (View.Piece (Elt Ideal) S1024x2048 .f32) :=
  [⟨Rect.unit ![0, 1536] ![1024, 512] inb_S1024x2048_S1024x512_0_1536, k0_pay2 (k0_pay5 x0 x1) (View.ld xo (Rect.unit ![0, 1536] ![1024, 512] inb_S1024x2048_S1024x512_0_1536)) (View.ld x2 (Rect.unit ![0, 0, 1536] ![1, 512, 512] inb_S1x512x2048_S1x512x512_0_0_1536))⟩,
   ⟨Rect.unit ![0, 1024] ![1024, 512] inb_S1024x2048_S1024x512_0_1024, k0_pay1 (k0_pay5 x0 x1) (View.ld xo (Rect.unit ![0, 1024] ![1024, 512] inb_S1024x2048_S1024x512_0_1024)) (View.ld x2 (Rect.unit ![0, 0, 1024] ![1, 512, 512] inb_S1x512x2048_S1x512x512_0_0_1024))⟩,
   ⟨Rect.unit ![0, 512] ![1024, 512] inb_S1024x2048_S1024x512_0_512, k0_pay7 x0 x1 (View.ld xo (Rect.unit ![0, 512] ![1024, 512] inb_S1024x2048_S1024x512_0_512)) (View.ld x2 (Rect.unit ![0, 0, 512] ![1, 512, 512] inb_S1x512x2048_S1x512x512_0_0_512))⟩,
   ⟨Rect.unit ![0, 0] ![1024, 512] inb_S1024x2048_S1024x512_0_0, k0_pay6 x0 x1 (View.ld xo (Rect.unit ![0, 0] ![1024, 512] inb_S1024x2048_S1024x512_0_0)) (View.ld x2 (Rect.unit ![0, 0, 0] ![1, 512, 512] inb_S1x512x2048_S1x512x512_0_0_0))⟩]

/-- An entry of a slab of columns, in the whole block. -/
theorem emb_col (o : ℕ) (h) (w0 : Fin 1024) (w1 : Fin 512) (hb : o + w1.val < 2048) :
    (Rect.unit (s := S1024x2048) ![0, o] ![1024, 512] h).emb (ix2 w0 w1) = (ix2 w0 ⟨o + w1.val, hb⟩ : S1024x2048.Idx) := by
  funext a
  fin_cases a
  · apply Fin.ext
    show 0 + 1 * w0.val = w0.val
    omega
  · apply Fin.ext
    show o + 1 * w1.val = o + w1.val
    omega

/-- The slabs, over any earlier stores, leave the old contents plus the point's addends. -/
theorem slabs_canon (x0 : Vec Ideal S1024x2048 .f32) (x1 : Vec Ideal S1x2048x512 .f32) (x2 : Vec Ideal S1x512x2048 .f32) (xo : Vec Ideal S1024x2048 .f32)
    (L : List (View.Piece (Elt Ideal) S1024x2048 .f32)) (p : Fin 1024) (q : Fin 2048) :
    View.canon (slabs x0 x1 x2 xo ++ L) (ix2 p q) = xo (ix2 p q) + addB x0 x1 x2 p q := by
  refine View.canon_append_of_piecesOf (fun y : S1024x2048.Idx => xo y + addB x0 x1 x2 (y 0) (y 1)) L (slabs x0 x1 x2 xo) ?_ (ix2 p q)
    (View.cover_of_tiledL (slabs x0 x1 x2 xo) S1024x512.size (by sl_kernel_rfl) _)
  refine ⟨?_, ?_, ?_, ?_, trivial⟩
  · intro w; idx_vars w
    rw [emb_col 1536 _ w0 w1 (by omega)]
    unfold k0_pay2
    generalize hh : k0_pay5 x0 x1 = h
    pointwise
    subst hh
    simp only [addB, pay5_at]
  · intro w; idx_vars w
    rw [emb_col 1024 _ w0 w1 (by omega)]
    unfold k0_pay1
    generalize hh : k0_pay5 x0 x1 = h
    pointwise
    subst hh
    simp only [addB, pay5_at]
  · intro w; idx_vars w
    rw [emb_col 512 _ w0 w1 (by omega)]
    unfold k0_pay7
    generalize hh : k0_pay5 x0 x1 = h
    pointwise
    subst hh
    simp only [addB, pay5_at]
  · intro w; idx_vars w
    rw [emb_col 0 _ w0 w1 (by omega)]
    unfold k0_pay6
    generalize hh : k0_pay5 x0 x1 = h
    pointwise
    subst hh
    simp only [addB, pay5_at]

theorem pay3_at (v : Vec Ideal S1024x2048 .f32) (g b : Vec Ideal S1x1x2048 .f32) (p : Fin 1024) (q : Fin 2048) :
    k0_pay3 v g b (ix2 p q) = lnAt (fun x => v (ix2 p x)) (g (ix3 0 0 q)) (b (ix3 0 0 q)) q := by
  unfold k0_pay3 lnAt meanAt
  pointwise

theorem pay4_at (v : Vec Ideal S1024x2048 .f32) (p : Fin 1024) (q : Fin 2048) :
    k0_pay4 v (ix2 p q) = Ideal.ofBits FTy.f32 0x3FD744FD#32 * v (ix2 p q) := by
  unfold k0_pay4
  pointwise

theorem out_A (c : Dev nD) (i : grid0.Coords) (arg2 : Memref sig .tc .vmem S1024x2048 .f32) (harg2 : arg2.IsWhole) (arg3 : Memref sig .tc .vmem S1x2048x512 .f32) (harg3 : arg3.IsWhole) (arg4 : Memref sig .tc .vmem S1x512x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1024x2048 .f32) (harg7 : arg7.IsWhole) (hc0 : cond0_0 i) (hc1 : ¬cond0_1 i) (x0 : Vec Ideal S1024x2048 .f32) (x1 : Vec Ideal S1x2048x512 .f32) (x2 : Vec Ideal S1x512x2048 .f32) (x3 : Vec Ideal S1x1x2048 .f32) (x4 : Vec Ideal S1x1x2048 .f32) (p : Fin 1024) (q : Fin 2048) :
    out0_A_5 c i arg2 harg2 arg3 harg3 arg4 harg4 arg5 harg5 arg6 harg6 arg7 harg7 hc0 hc1 x0 x1 x2 x3 x4 (ix2 p q) = Ideal.ofBits FTy.f32 0x3FD744FD#32 * x0 (ix2 p q) + addB x0 x1 x2 p q := by
  frame_open
  simp (disch := decide) only [↓ View.readCov_skip, ↓ View.readCov_cons_toLoadRect, ↓ View.readCov_fill]
  frame_out
  exact (slabs_canon x0 x1 x2 (k0_pay4 x0) _ p q).trans (by rw [pay4_at])

theorem out_B (c : Dev nD) (i : grid0.Coords) (arg2 : Memref sig .tc .vmem S1024x2048 .f32) (harg2 : arg2.IsWhole) (arg3 : Memref sig .tc .vmem S1x2048x512 .f32) (harg3 : arg3.IsWhole) (arg4 : Memref sig .tc .vmem S1x512x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1024x2048 .f32) (harg7 : arg7.IsWhole) (hc0 : ¬cond0_0 i) (hc1 : ¬cond0_1 i) (x0 : Vec Ideal S1024x2048 .f32) (x1 : Vec Ideal S1x2048x512 .f32) (x2 : Vec Ideal S1x512x2048 .f32) (x3 : Vec Ideal S1x1x2048 .f32) (x4 : Vec Ideal S1x1x2048 .f32) (xo5 : Vec Ideal S1024x2048 .f32) (p : Fin 1024) (q : Fin 2048) :
    out0_B_5 c i arg2 harg2 arg3 harg3 arg4 harg4 arg5 harg5 arg6 harg6 arg7 harg7 hc0 hc1 x0 x1 x2 x3 x4 xo5 (ix2 p q) = xo5 (ix2 p q) + addB x0 x1 x2 p q := by
  frame_out
  refine Eq.trans ?_ (slabs_canon x0 x1 x2 xo5 [] p q)
  rw [List.append_nil]
  rfl

theorem out_C (c : Dev nD) (i : grid0.Coords) (arg2 : Memref sig .tc .vmem S1024x2048 .f32) (harg2 : arg2.IsWhole) (arg3 : Memref sig .tc .vmem S1x2048x512 .f32) (harg3 : arg3.IsWhole) (arg4 : Memref sig .tc .vmem S1x512x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1024x2048 .f32) (harg7 : arg7.IsWhole) (hc0 : ¬cond0_0 i) (hc1 : cond0_1 i) (x0 : Vec Ideal S1024x2048 .f32) (x1 : Vec Ideal S1x2048x512 .f32) (x2 : Vec Ideal S1x512x2048 .f32) (x3 : Vec Ideal S1x1x2048 .f32) (x4 : Vec Ideal S1x1x2048 .f32) (xo5 : Vec Ideal S1024x2048 .f32) (p : Fin 1024) (q : Fin 2048) :
    out0_C_5 c i arg2 harg2 arg3 harg3 arg4 harg4 arg5 harg5 arg6 harg6 arg7 harg7 hc0 hc1 x0 x1 x2 x3 x4 xo5 (ix2 p q) = lnAt (fun x => xo5 (ix2 p x) + addB x0 x1 x2 p x) (x3 (ix3 0 0 q)) (x4 (ix3 0 0 q)) q := by
  frame_open
  simp (disch := decide) only [↓ View.readCov_skip, ↓ View.readCov_cons_toLoadRect, ↓ View.readCov_fill]
  frame_out
  have e := View.readCov_eq_canon_ld arg7.view (slabs x0 x1 x2 xo5) (Rect.unit (s := S1024x2048) ![0, 0] ![1024, 2048] inb_S1024x2048_S1024x2048_0_0)
    (View.cover_of_tiledL (slabs x0 x1 x2 xo5) S1024x512.size (by sl_kernel_rfl))
  have e' : View.ld (View.canon (slabs x0 x1 x2 xo5)) (Rect.unit (s := S1024x2048) ![0, 0] ![1024, 2048] inb_S1024x2048_S1024x2048_0_0)
      = View.canon (slabs x0 x1 x2 xo5) := View.ld_unit_zero (S := S1024x2048) (by decide) _ _
  refine (pay3_at _ x3 x4 p q).trans ?_
  congr 1
  funext x
  refine (congrFun (e.trans e') (ix2 p x)).trans ?_
  rw [← slabs_canon x0 x1 x2 xo5 [] p x, List.append_nil]

end Cert.Kernel2Ideal.Mlp
end
-- ==== Proof.MlpValue.lean ====
/- The MLP kernel's result: the blocks a grid point reads, the sum carried from point to point, the array it leaves. -/
module

public import proofs.«01_k».proof.Proof.MlpOpen
public import Idealize.ShloMosaic.Lib.Pipeline.ValueKit.Point
public import Idealize.ShloMosaic.Lib.StableHlo.RunRead
public import Idealize.ShloMosaic.Lib.StableHlo.ReadAt

@[expose] public section
noncomputable section
open Idealize.ShloMosaic Idealize.ShloMosaic.TcCoe Idealize.SL.Sem Idealize.ShloMosaic.StableHlo
namespace Cert.Kernel2Ideal.Mlp
open Cert.Kernel2Ideal Cert.Kernel2Ideal.Gen MlpM
variable (m : (ℓ : Loc nD τ sig) → Buf (Elt Ideal) ℓ) (c : Dev nD)

set_option maxRecDepth 65536
set_option maxHeartbeats 1000000

/-- The activations, the last MLP's weights and its norm's, by their coordinates. -/
abbrev X (r : Fin 8192) (d : Fin 2048) : EReal := (m ((c.tc : Thread nD τ).loc main_arg0) : Vec Ideal S8192x2048 .f32) (ix2 r d)
abbrev W1 (d : Fin 2048) (k : Fin 8192) : EReal := (m ((c.tc : Thread nD τ).loc main_arg1) : Vec Ideal S4x2048x8192 .f32) (ix3 3 d k)
abbrev W2 (k : Fin 8192) (q : Fin 2048) : EReal := (m ((c.tc : Thread nD τ).loc main_arg2) : Vec Ideal S4x8192x2048 .f32) (ix3 3 k q)
abbrev G (q : Fin 2048) : EReal := (m ((c.tc : Thread nD τ).loc main_arg3) : Vec Ideal S4x2048 .f32) (ix2 3 q)
abbrev B (q : Fin 2048) : EReal := (m ((c.tc : Thread nD τ).loc main_arg4) : Vec Ideal S4x2048 .f32) (ix2 3 q)

theorem V_v0 : (V m c main_v0 : Vec Ideal S4x1x2048 .f32) = broadcastInDim S4x1x2048 ![0, 2] bcast_S4x2048_S4x1x2048_0_2 (m ((c.tc : Thread nD τ).loc main_arg3) : Vec Ideal S4x2048 .f32) := by
  simp only [V, List.flatten_cons, List.flatten_nil, List.append_nil, List.cons_append, List.nil_append, hostOps0]
  after_reads_simp
theorem V_v1 : (V m c main_v1 : Vec Ideal S4x1x2048 .f32) = broadcastInDim S4x1x2048 ![0, 2] bcast_S4x2048_S4x1x2048_0_2 (m ((c.tc : Thread nD τ).loc main_arg4) : Vec Ideal S4x2048 .f32) := by
  simp only [V, List.flatten_cons, List.flatten_nil, List.append_nil, List.cons_append, List.nil_append, hostOps0]
  after_reads_simp
theorem G_at (q : Fin 2048) : (V m c main_v0 : Vec Ideal S4x1x2048 .f32) (ix3 3 0 q) = G m c q := by
  rw [V_v0]; pointwise
theorem B_at (q : Fin 2048) : (V m c main_v1 : Vec Ideal S4x1x2048 .f32) (ix3 3 0 q) = B m c q := by
  rw [V_v1]; pointwise

theorem idx : ∀ t : Fin cfg0.N, win0_0.index t = ![t.val / 16, 0] ∧ win0_1.index t = ![3, 0, t.val % 16] ∧ win0_2.index t = ![3, t.val % 16, 0]
    ∧ win0_3.index t = ![3, 0, 0] ∧ win0_4.index t = ![3, 0, 0] ∧ win0_5.index t = ![t.val / 16, 0] :=
  (by decide +kernel : ∀ t : Fin grid0.N, _)

/-- The row of the array that row `p` of the block of point `n` is. -/
theorem row_lt {n : ℕ} (hn : n < cfg0.N) (p : Fin 1024) : 1024 * (n / 16) + p.val < 8192 := by
  have : n < 128 := lt_of_lt_of_eq hn (show cfg0.N = 128 from N_0)
  omega
theorem lane_lt (n : ℕ) (k : Fin 512) : n % 16 * 512 + k.val < 8192 := by omega

theorem blk0 (t : Fin cfg0.N) (p : Fin 1024) (d : Fin 2048) : iblk m c 0 t (ix2 p d) = X m c ⟨1024 * (t.val / 16) + p.val, row_lt t.isLt p⟩ d := by
  blk_ext [iblk, V_main_arg0, idx t]
theorem blk1 (t : Fin cfg0.N) (d : Fin 2048) (k : Fin 512) : iblk m c 1 t (ix3 0 d k) = W1 m c d ⟨t.val % 16 * 512 + k.val, lane_lt _ k⟩ := by
  blk_ext [iblk, V_main_arg1, idx t]
theorem blk2 (t : Fin cfg0.N) (k : Fin 512) (q : Fin 2048) : iblk m c 2 t (ix3 0 k q) = W2 m c ⟨t.val % 16 * 512 + k.val, lane_lt _ k⟩ q := by
  blk_ext [iblk, V_main_arg2, idx t]
theorem blk3 (t : Fin cfg0.N) (q : Fin 2048) : iblk m c 3 t (ix3 0 0 q) = G m c q := by
  refine Eq.trans ?_ (G_at m c q)
  blk_ext [iblk, idx t]
theorem blk4 (t : Fin cfg0.N) (q : Fin 2048) : iblk m c 4 t (ix3 0 0 q) = B m c q := by
  refine Eq.trans ?_ (B_at m c q)
  blk_ext [iblk, idx t]

/-- One hidden unit's addend to an entry. -/
def hidW (r : Fin 8192) (q : Fin 2048) (k : Fin 8192) : EReal :=
  (max (∑ d, X m c r d * W1 m c d k) 0 * max (∑ d, X m c r d * W1 m c d k) 0) * W2 m c k q

/-- What stretch `s` of the hidden units adds to an entry. -/
def term (r : Fin 8192) (q : Fin 2048) (s : ℕ) : EReal := ∑ k : Fin 512, hidW m c r q ⟨s % 16 * 512 + k.val, lane_lt s k⟩

theorem add_at (t : Fin cfg0.N) (p : Fin 1024) (q : Fin 2048) :
    addB (iblk m c 0 t) (iblk m c 1 t) (iblk m c 2 t) p q = term m c ⟨1024 * (t.val / 16) + p.val, row_lt t.isLt p⟩ q t.val := by
  unfold addB hidB term hidW
  simp only [blk0 m c t, blk1 m c t, blk2 m c t]

/-- The stretches together are all hidden units. -/
theorem terms_all (r : Fin 8192) (q : Fin 2048) :
    Ideal.ofBits FTy.f32 0x3FD744FD#32 * X m c r q + ∑ s ∈ Finset.range 16, term m c r q s = resAt (X m c) (W1 m c) (W2 m c) r q := by
  unfold resAt
  congr 1
  rw [Finset.sum_range]
  unfold term
  refine Fin.sum_mul_add_congr (f := hidW m c r q) fun s k hl => ?_
  congr 2
  simp only [Nat.mod_eq_of_lt s.isLt]

theorem first_at (t : Fin cfg0.N) (h0 : t.val % 16 = 0) (p : Fin 1024) (q : Fin 2048) :
    outsAt0 m c t.val t.isLt (ix2 p q) = Ideal.ofBits FTy.f32 0x3FD744FD#32 * X m c ⟨1024 * (t.val / 16) + p.val, row_lt t.isLt p⟩ q
      + ∑ s ∈ Finset.range (t.val % 16 + 1), term m c ⟨1024 * (t.val / 16) + p.val, row_lt t.isLt p⟩ q s := by
  have e : ∀ r, term m c r q t.val = ∑ s ∈ Finset.range (t.val % 16 + 1), term m c r q s := fun r => by
    rw [h0, zero_add, Finset.sum_range_one]
    unfold term
    simp only [h0, Nat.zero_mod]
  rw [outsAt0_A m c t h0 (by omega), out_A, add_at, blk0, e]

theorem next_at (t : Fin cfg0.N) (h0 : ¬t.val % 16 = 0) (h1 : ¬t.val % 16 = 15) (p : Fin 1024) (q : Fin 2048) :
    outsAt0 m c t.val t.isLt (ix2 p q) = outsAt0 m c (t.val - 1) (Nat.lt_of_le_of_lt (Nat.sub_le _ _) t.isLt) (ix2 p q)
      + term m c ⟨1024 * (t.val / 16) + p.val, row_lt t.isLt p⟩ q t.val := by
  rw [outsAt0_B m c t h0 h1, out_B, add_at]

/-- Before the last point of a row block: the weighted input and the stretches so far. -/
theorem acc_at : ∀ (n : ℕ) (hn : n < cfg0.N), n % 16 ≠ 15 → ∀ (p : Fin 1024) (q : Fin 2048),
    outsAt0 m c n hn (ix2 p q) = Ideal.ofBits FTy.f32 0x3FD744FD#32 * X m c ⟨1024 * (n / 16) + p.val, row_lt hn p⟩ q
      + ∑ s ∈ Finset.range (n % 16 + 1), term m c ⟨1024 * (n / 16) + p.val, row_lt hn p⟩ q s := by
  intro n
  induction n with
  | zero =>
    intro hn h1 p q
    exact first_at m c ⟨0, hn⟩ (Nat.zero_mod _) p q
  | succ n ih =>
    intro hn h1 p q
    by_cases h0 : (n + 1) % 16 = 0
    · exact first_at m c ⟨n + 1, hn⟩ h0 p q
    · have e1 : (n + 1) / 16 = n / 16 := by omega
      have e2 : (n + 1) % 16 = n % 16 + 1 := by omega
      refine (next_at m c ⟨n + 1, hn⟩ h0 h1 p q).trans ((congrArg (· + _) (ih (by omega) (by omega) p q)).trans ?_)
      simp only [e1, e2]
      rw [Finset.sum_range_succ _ (n % 16 + 1), ← add_assoc]
      congr 1
      unfold term
      simp only [← e2, Nat.mod_mod]

/-- The last point of a row block: the normalised row. -/
theorem last_at (t : Fin cfg0.N) (h1 : t.val % 16 = 15) (p : Fin 1024) (q : Fin 2048) :
    outsAt0 m c t.val t.isLt (ix2 p q)
      = lnAt (resAt (X m c) (W1 m c) (W2 m c) ⟨1024 * (t.val / 16) + p.val, row_lt t.isLt p⟩) (G m c q) (B m c q) q := by
  rw [outsAt0_C m c t (by omega) h1, out_C, blk3, blk4]
  congr 1
  funext x
  rw [add_at, acc_at m c (t.val - 1) _ (by omega), ← terms_all, Finset.sum_range_succ _ 15, ← add_assoc]
  have e1 : (t.val - 1) / 16 = t.val / 16 := by omega
  have e2 : (t.val - 1) % 16 + 1 = 15 := by omega
  simp only [e1, e2]
  congr 1
  unfold term
  simp only [h1]

/-- The kernel's array. -/
def GW (y : S8192x2048.Idx) : EReal := lnAt (resAt (X m c) (W1 m c) (W2 m c) (y 0)) (G m c (y 1)) (B m c (y 1)) (y 1)

theorem arr_eq : ((dats m 0 c).arrAt 5 cfg0.N : Vec Ideal S8192x2048 .f32) = GW m c := by
  refine (dats m 0 c).arrAt_eq_of_covers 5 _ (by decide +kernel) fun t hf y => ?_
  have h1 := (flush0_5 t).mp hf
  blk_simp
  rw [after0_5]
  idx_vars y
  refine (last_at m c t h1 y0 y1).trans ?_
  have e : (win0_5.blk t).view.emb (ix2 y0 y1) = (ix2 ⟨1024 * (t.val / 16) + y0.val, row_lt t.isLt y0⟩ y1 : S8192x2048.Idx) := by
    blk_ext [idx t]
  rw [e]
  rfl

end Cert.Kernel2Ideal.Mlp
end
-- ==== Proof.MlpRef.lean ====
/- The MLP reference's result, at an index. -/
module

public import proofs.«01_k».proof.Proof.Gen.Reference2Ideal.Run
public import proofs.«01_k».proof.Proof.MlpMath
public import Idealize.ShloMosaic.Lib.Pointwise

@[expose] public section
noncomputable section
open Idealize.ShloMosaic Idealize.ShloMosaic.TcCoe Idealize.SL.Sem Idealize.ShloMosaic.StableHlo
namespace Cert.Reference2Ideal.Mlp
open Cert.Reference2Ideal Cert.Reference2Ideal.Gen MlpM

set_option maxRecDepth 65536
set_option maxHeartbeats 1000000

/-- The residual sum, as the reference's operations write it. -/
def resV (x : Vec Ideal S8192x2048 .f32) (w1 : Vec Ideal S4x2048x8192 .f32) (w2 : Vec Ideal S4x8192x2048 .f32) : Vec Ideal S8192x2048 .f32 :=
  addf (F := Ideal) (φ := .f32) (mulf (F := Ideal) (φ := .f32) (broadcastInDim S8192x2048 ![] bcast_S_S8192x2048 (constant (F := Ideal) S_ .f32 0x3FD744FD#32)) x)
    (Host.dotGeneral (F := Ideal) (φ₁ := .f32) (φ₂ := .f32) dot_S8192x8192_S8192x2048_S8192x2048_1_0_0_1_n_n none
      (mulf (F := Ideal) (φ := .f32)
        (maximumf (F := Ideal) (φ := .f32) (Host.dotGeneral (F := Ideal) (φ₁ := .f32) (φ₂ := .f32) dot_S8192x2048_S2048x8192_S8192x8192_1_0_0_1_n_n none x
          (shapeCast S2048x8192 (extractStridedSlice S1x2048x8192 ![3, 0, 0] w1 slices_S4x2048x8192_S1x2048x8192_3_0_0) shapeCasts_S1x2048x8192_S2048x8192))
          (broadcastInDim S8192x8192 ![] bcast_S_S8192x8192 (constant (F := Ideal) S_ .f32 0x00000000#32)))
        (maximumf (F := Ideal) (φ := .f32) (Host.dotGeneral (F := Ideal) (φ₁ := .f32) (φ₂ := .f32) dot_S8192x2048_S2048x8192_S8192x8192_1_0_0_1_n_n none x
          (shapeCast S2048x8192 (extractStridedSlice S1x2048x8192 ![3, 0, 0] w1 slices_S4x2048x8192_S1x2048x8192_3_0_0) shapeCasts_S1x2048x8192_S2048x8192))
          (broadcastInDim S8192x8192 ![] bcast_S_S8192x8192 (constant (F := Ideal) S_ .f32 0x00000000#32))))
      (shapeCast S8192x2048 (extractStridedSlice S1x8192x2048 ![3, 0, 0] w2 slices_S4x8192x2048_S1x8192x2048_3_0_0) shapeCasts_S1x8192x2048_S8192x2048))

theorem resV_at (x : Vec Ideal S8192x2048 .f32) (w1 : Vec Ideal S4x2048x8192 .f32) (w2 : Vec Ideal S4x8192x2048 .f32) (r : Fin 8192) (q : Fin 2048) :
    resV x w1 w2 (ix2 r q) = resAt (fun r d => x (ix2 r d)) (fun d k => w1 (ix3 3 d k)) (fun k q => w2 (ix3 3 k q)) r q := by
  unfold resV resAt
  pointwise

/-- The mean of each row. -/
def meanV (v : Vec Ideal S8192x2048 .f32) : Vec Ideal S8192x1 .f32 :=
  Host.divf (F := Ideal) (φ := .f32) (broadcastInDim S8192x1 ![0] bcast_S8192_S8192x1_0 (Host.reduceAdd (F := Ideal) (φ := .f32) v (constant (F := Ideal) S_ .f32 0x00000000#32) reducesTo_S8192x2048_S8192_d1 h_S_))
    (broadcastInDim S8192x1 ![] bcast_S_S8192x1 (constant (F := Ideal) S_ .f32 0x45000000#32))

theorem meanV_at (v : Vec Ideal S8192x2048 .f32) (r : Fin 8192) : meanV v (ix2 r 0) = meanAt (fun q => v (ix2 r q)) := by
  unfold meanV meanAt
  pointwise

/-- Each row less its mean. -/
def cenV (v : Vec Ideal S8192x2048 .f32) : Vec Ideal S8192x2048 .f32 :=
  subf (F := Ideal) (φ := .f32) v (broadcastInDim S8192x2048 ![0, 1] bcast_S8192x1_S8192x2048_0_1 (meanV v))

theorem cenV_at (v : Vec Ideal S8192x2048 .f32) (r : Fin 8192) (q : Fin 2048) : cenV v (ix2 r q) = v (ix2 r q) - meanAt (fun q => v (ix2 r q)) := by
  unfold cenV
  rw [← meanV_at]
  generalize meanV v = w
  pointwise

/-- Each row normalised. -/
def normV (v : Vec Ideal S8192x2048 .f32) (g b : Vec Ideal S2048 .f32) : Vec Ideal S8192x2048 .f32 :=
  addf (F := Ideal) (φ := .f32) (mulf (F := Ideal) (φ := .f32) (mulf (F := Ideal) (φ := .f32) (cenV v)
    (broadcastInDim S8192x2048 ![0, 1] bcast_S8192x1_S8192x2048_0_1 (Host.rsqrt (F := Ideal) (φ := .f32) (addf (F := Ideal) (φ := .f32) (meanV (mulf (F := Ideal) (φ := .f32) (cenV v) (cenV v)))
      (broadcastInDim S8192x1 ![] bcast_S_S8192x1 (constant (F := Ideal) S_ .f32 0x3727C5AC#32))))))
    (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 b))

theorem normV_at (v : Vec Ideal S8192x2048 .f32) (g b : Vec Ideal S2048 .f32) (r : Fin 8192) (q : Fin 2048) :
    normV v g b (ix2 r q) = lnAt (fun q => v (ix2 r q)) (g (ix1 q)) (b (ix1 q)) q := by
  have h1 := cenV_at v r q
  have h2 := meanV_at (mulf (F := Ideal) (φ := .f32) (cenV v) (cenV v)) r
  have h3 : ∀ x, mulf (F := Ideal) (φ := .f32) (cenV v) (cenV v) (ix2 r x) = cenV v (ix2 r x) * cenV v (ix2 r x) := fun x => by
    generalize cenV v = w
    pointwise
  simp only [h3, cenV_at] at h2
  unfold normV lnAt
  rw [← h2, ← h1]
  generalize meanV (mulf (F := Ideal) (φ := .f32) (cenV v) (cenV v)) = mv
  generalize cenV v = w
  pointwise

theorem res_eq (m : (ℓ : Loc nD τ sig) → Buf (Elt Ideal) ℓ) (c : Dev nD) :
    (Cert.Reference2Ideal.Value.res_main_v38 m c : Vec Ideal S8192x2048 .f32)
      = normV (resV (m ((c.tc : Thread nD τ).loc main_arg0)) (m ((c.tc : Thread nD τ).loc main_arg1)) (m ((c.tc : Thread nD τ).loc main_arg2)))
          (shapeCast S2048 (extractStridedSlice S1x2048 ![3, 0] (m ((c.tc : Thread nD τ).loc main_arg3) : Vec Ideal S4x2048 .f32) slices_S4x2048_S1x2048_3_0) shapeCasts_S1x2048_S2048)
          (shapeCast S2048 (extractStridedSlice S1x2048 ![3, 0] (m ((c.tc : Thread nD τ).loc main_arg4) : Vec Ideal S4x2048 .f32) slices_S4x2048_S1x2048_3_0) shapeCasts_S1x2048_S2048) := by
  unfold Cert.Reference2Ideal.Value.res_main_v38 normV cenV meanV resV
  rfl

theorem row_at (g : Vec Ideal S4x2048 .f32) (q : Fin 2048) :
    shapeCast S2048 (extractStridedSlice S1x2048 ![3, 0] g slices_S4x2048_S1x2048_3_0) shapeCasts_S1x2048_S2048 (ix1 q) = g (ix2 3 q) := by
  pointwise

theorem res_at (m : (ℓ : Loc nD τ sig) → Buf (Elt Ideal) ℓ) (c : Dev nD) (r : Fin 8192) (q : Fin 2048) :
    (Cert.Reference2Ideal.Value.res_main_v38 m c : Vec Ideal S8192x2048 .f32) (ix2 r q)
      = lnAt (resAt (fun r d => (m ((c.tc : Thread nD τ).loc main_arg0) : Vec Ideal S8192x2048 .f32) (ix2 r d)) (fun d k => (m ((c.tc : Thread nD τ).loc main_arg1) : Vec Ideal S4x2048x8192 .f32) (ix3 3 d k))
            (fun k q => (m ((c.tc : Thread nD τ).loc main_arg2) : Vec Ideal S4x8192x2048 .f32) (ix3 3 k q)) r)
          ((m ((c.tc : Thread nD τ).loc main_arg3) : Vec Ideal S4x2048 .f32) (ix2 3 q)) ((m ((c.tc : Thread nD τ).loc main_arg4) : Vec Ideal S4x2048 .f32) (ix2 3 q)) q := by
  rw [res_eq, normV_at, row_at, row_at]
  simp only [resV_at]

end Cert.Reference2Ideal.Mlp
end
-- ==== Proof.OutMath.lean ====
/- The rows that the output projections of the retention and of the S5 layer hand to their layer norms, over plain functions. -/
module

public import proofs.«01_k».proof.Proof.MlpMath

@[expose] public section
noncomputable section
open Idealize.ShloMosaic
namespace OutM

/-- The residual sum at an entry: the weighted input plus the product of the retention's row with the output weights. -/
def outAt (Y : Fin 8192 → Fin 4096 → EReal) (X : Fin 8192 → Fin 2048 → EReal) (W : Fin 4096 → Fin 2048 → EReal) (r : Fin 8192) (q : Fin 2048) : EReal :=
  Ideal.ofBits FTy.f32 0x3FD744FD#32 * X r q + ∑ k : Fin 4096, Y r k * W k q

/-- The residual sum of the S5 layer at an entry: the weighted input plus the output product times the gate of the other product. -/
def gateAt (H : Fin 8192 → Fin 2048 → EReal) (X : Fin 8192 → Fin 2048 → EReal) (W V : Fin 2048 → Fin 2048 → EReal) (r : Fin 8192) (q : Fin 2048) : EReal :=
  Ideal.ofBits FTy.f32 0x3FD744FD#32 * X r q + (∑ k : Fin 2048, H r k * W k q) * Ideal.logistic (∑ k : Fin 2048, H r k * V k q)

end OutM
end
-- ==== Proof.OutValue.lean ====
/- The output projection's kernel: what a grid point leaves in its block, and the array the points leave together. -/
module

public import proofs.«01_k».proof.Proof.Gen.Kernel3Ideal.Value
public import proofs.«01_k».proof.Proof.OutMath
public import Idealize.ShloMosaic.Lib.Tactic
public import Idealize.ShloMosaic.Lib.Pipeline.Value
public import Idealize.ShloMosaic.Lib.Pipeline.ReadBack
public import Idealize.ShloMosaic.Lib.Pointwise
public import Idealize.ShloMosaic.Lib.Pipeline.ValueKit
public import Idealize.ShloMosaic.Lib.Pipeline.ValueKit.Point
public import Idealize.ShloMosaic.Lib.StableHlo.RunRead
public import Idealize.ShloMosaic.Lib.StableHlo.ReadAt

@[expose] public section
noncomputable section
open Idealize.ShloMosaic Idealize.ShloMosaic.TcCoe Idealize.SL.Sem Idealize.ShloMosaic.StableHlo
namespace Cert.Kernel3Ideal.Out
open Cert.Kernel3Ideal Cert.Kernel3Ideal.Gen MlpM OutM

set_option maxRecDepth 65536
set_option maxHeartbeats 1000000

theorem pay1_at (y : Vec Ideal S256x4096 .bf16) (w : Vec Ideal S4096x2048 .bf16) (x : Vec Ideal S256x2048 .f32) (g b : Vec Ideal S1x1x2048 .f32) (p : Fin 256) (q : Fin 2048) :
    k0_pay1 y w x g b (ix2 p q)
      = lnAt (fun z => Ideal.ofBits FTy.f32 0x3FD744FD#32 * x (ix2 p z) + ∑ k : Fin 4096, y (ix2 p k) * w (ix2 k z)) (g (ix3 0 0 q)) (b (ix3 0 0 q)) q := by
  unfold k0_pay1 lnAt meanAt
  pointwise

theorem pay2_at (y : Vec Ideal S256x4096 .bf16) (w : Vec Ideal S4096x2048 .bf16) (x : Vec Ideal S256x2048 .f32) (g b : Vec Ideal S1x1x2048 .f32) (p : Fin 256) (q : Fin 2048) :
    k0_pay2 y w x g b (ix2 p q)
      = lnAt (fun z => Ideal.ofBits FTy.f32 0x3FD744FD#32 * x (ix2 p z) + ∑ k : Fin 4096, y (ix2 p k) * w (ix2 k z)) (g (ix3 0 0 q)) (b (ix3 0 0 q)) q := by
  unfold k0_pay2 lnAt meanAt
  pointwise

/-- An entry of a slab of rows, in the whole block. -/
theorem emb_row (o : ℕ) (h) (w0 : Fin 256) (w1 : Fin 2048) (hb : o + w0.val < 512) :
    (Rect.unit (s := S512x2048) ![o, 0] ![256, 2048] h).emb (ix2 w0 w1) = (ix2 ⟨o + w0.val, hb⟩ w1 : S512x2048.Idx) := by
  funext a
  fin_cases a
  · apply Fin.ext
    show o + 1 * w0.val = o + w0.val
    omega
  · apply Fin.ext
    show 0 + 1 * w1.val = w1.val
    omega

/-- A row of the output block, normalised. -/
def blkAt (x0 : Vec Ideal S512x4096 .bf16) (x1 : Vec Ideal S4096x2048 .bf16) (x2 : Vec Ideal S512x2048 .f32) (x3 x4 : Vec Ideal S1x1x2048 .f32) (y : S512x2048.Idx) : EReal :=
  lnAt (fun z => Ideal.ofBits FTy.f32 0x3FD744FD#32 * x2 (ix2 (y 0) z) + ∑ k : Fin 4096, x0 (ix2 (y 0) k) * x1 (ix2 k z)) (x3 (ix3 0 0 (y 1))) (x4 (ix3 0 0 (y 1))) (y 1)

/-- What the two halves' loads read. -/
theorem ld_y (o : ℕ) (h) (x : Vec Ideal S512x4096 .bf16) (p : Fin 256) (k : Fin 4096) (hb : o + p.val < 512) :
    View.ld x (Rect.unit (s := S512x4096) ![o, 0] ![256, 4096] h) (ix2 p k) = x (ix2 ⟨o + p.val, hb⟩ k) := by
  refine congrArg x ?_
  funext a
  fin_cases a
  · apply Fin.ext
    show o + 1 * p.val = o + p.val
    omega
  · apply Fin.ext
    show 0 + 1 * k.val = k.val
    omega
theorem ld_x (o : ℕ) (h) (x : Vec Ideal S512x2048 .f32) (p : Fin 256) (q : Fin 2048) (hb : o + p.val < 512) :
    View.ld x (Rect.unit (s := S512x2048) ![o, 0] ![256, 2048] h) (ix2 p q) = x (ix2 ⟨o + p.val, hb⟩ q) :=
  congrArg x (emb_row o h p q hb)
theorem ld_w (x : Vec Ideal S4096x2048 .bf16) : View.ld x r0_1 = x := View.ld_unit_zero (S := S4096x2048) (by decide) _ _
theorem ld_g (x : Vec Ideal S1x1x2048 .f32) : View.ld x r0_3 = x := View.ld_unit_zero (S := S1x1x2048) (by decide) _ _

theorem out_at (x0 : Vec Ideal S512x4096 .bf16) (x1 : Vec Ideal S4096x2048 .bf16) (x2 : Vec Ideal S512x2048 .f32) (x3 x4 : Vec Ideal S1x1x2048 .f32) (y : S512x2048.Idx) :
    out0_5 x0 x1 x2 x3 x4 y = blkAt x0 x1 x2 x3 x4 y := by
  unfold out0_5
  rw [ld_w, ld_g, ld_g]
  refine View.canon_append_of_piecesOf (Val := Elt Ideal) (e := .f32) (blkAt x0 x1 x2 x3 x4) [] [⟨r0_5, k0_pay1 (View.ld x0 r0_4) x1 (View.ld x2 r0_5) x3 x4⟩,
    ⟨r0_2, k0_pay2 (View.ld x0 r0_0) x1 (View.ld x2 r0_2) x3 x4⟩] ⟨fun w => ?_, fun w => ?_, trivial⟩ y (cover0_5 _ _ y)
  · idx_vars w
    rw [emb_row 256 _ w0 w1 (by omega), pay1_at]
    unfold blkAt
    simp only [ld_y 256 _ x0 w0 _ (by omega), ld_x 256 _ x2 w0 _ (by omega)]
    rfl
  · idx_vars w
    rw [emb_row 0 _ w0 w1 (by omega), pay2_at]
    unfold blkAt
    simp only [ld_y 0 _ x0 w0 _ (by omega), ld_x 0 _ x2 w0 _ (by omega)]
    rfl

variable (m : (ℓ : Loc nD τ sig) → Buf (Elt Ideal) ℓ) (c : Dev nD)

/-- The retention's output, the activations, the output weights and the norm's, by their coordinates. -/
abbrev Y (r : Fin 8192) (k : Fin 4096) : EReal := (m ((c.tc : Thread nD τ).loc main_arg0) : Vec Ideal S8192x4096 .bf16) (ix2 r k)
abbrev X (r : Fin 8192) (q : Fin 2048) : EReal := (m ((c.tc : Thread nD τ).loc main_arg1) : Vec Ideal S8192x2048 .f32) (ix2 r q)
abbrev W (k : Fin 4096) (q : Fin 2048) : EReal := (m ((c.tc : Thread nD τ).loc main_arg2) : Vec Ideal S1x4096x2048 .f32) (ix3 0 k q)
abbrev G (q : Fin 2048) : EReal := (m ((c.tc : Thread nD τ).loc main_arg3) : Vec Ideal S4x2048 .f32) (ix2 2 q)
abbrev B (q : Fin 2048) : EReal := (m ((c.tc : Thread nD τ).loc main_arg4) : Vec Ideal S4x2048 .f32) (ix2 2 q)

theorem V_v0 : (V m c main_v0 : Vec Ideal S4x1x2048 .f32) = broadcastInDim S4x1x2048 ![0, 2] bcast_S4x2048_S4x1x2048_0_2 (m ((c.tc : Thread nD τ).loc main_arg3) : Vec Ideal S4x2048 .f32) := by
  simp only [V, List.flatten_cons, List.flatten_nil, List.append_nil, List.cons_append, List.nil_append, hostOps0]
  after_reads_simp
theorem V_v1 : (V m c main_v1 : Vec Ideal S4x1x2048 .f32) = broadcastInDim S4x1x2048 ![0, 2] bcast_S4x2048_S4x1x2048_0_2 (m ((c.tc : Thread nD τ).loc main_arg4) : Vec Ideal S4x2048 .f32) := by
  simp only [V, List.flatten_cons, List.flatten_nil, List.append_nil, List.cons_append, List.nil_append, hostOps0]
  after_reads_simp
theorem V_v3 : (V m c main_v3 : Vec Ideal S4096x2048 .bf16) = truncf (F := Ideal) (φ := .f32) .bf16 (shapeCast S4096x2048 (m ((c.tc : Thread nD τ).loc main_arg2) : Vec Ideal S1x4096x2048 .f32) shapeCasts_S1x4096x2048_S4096x2048) bitsLt_bf16_f32 := by
  simp only [V, List.flatten_cons, List.flatten_nil, List.append_nil, List.cons_append, List.nil_append, hostOps0]
  after_reads_simp
  rfl
theorem G_at (q : Fin 2048) : (V m c main_v0 : Vec Ideal S4x1x2048 .f32) (ix3 2 0 q) = G m c q := by
  rw [V_v0]; pointwise
theorem B_at (q : Fin 2048) : (V m c main_v1 : Vec Ideal S4x1x2048 .f32) (ix3 2 0 q) = B m c q := by
  rw [V_v1]; pointwise
theorem cast_at (w : Vec Ideal S1x4096x2048 .f32) (k : Fin 4096) (q : Fin 2048) :
    truncf (F := Ideal) (φ := .f32) .bf16 (shapeCast S4096x2048 w shapeCasts_S1x4096x2048_S4096x2048) bitsLt_bf16_f32 (ix2 k q) = w (ix3 0 k q) := by
  pointwise
theorem W_at (k : Fin 4096) (q : Fin 2048) : (V m c main_v3 : Vec Ideal S4096x2048 .bf16) (ix2 k q) = W m c k q := by
  rw [V_v3]; exact cast_at _ k q

theorem idx : ∀ t : Fin cfg0.N, win0_0.index t = ![t.val, 0] ∧ win0_1.index t = ![0, 0] ∧ win0_2.index t = ![t.val, 0]
    ∧ win0_3.index t = ![2, 0, 0] ∧ win0_4.index t = ![2, 0, 0] ∧ win0_5.index t = ![t.val, 0] :=
  (by decide +kernel : ∀ t : Fin grid0.N, _)

/-- The row of the array that row `p` of the block of point `n` is. -/
theorem row_lt {n : ℕ} (hn : n < cfg0.N) (p : Fin 512) : 512 * n + p.val < 8192 := by
  have : n < 16 := lt_of_lt_of_eq hn (show cfg0.N = 16 from N_0)
  omega

theorem blk0 (t : Fin cfg0.N) (p : Fin 512) (k : Fin 4096) : iblk m c 0 t (ix2 p k) = Y m c ⟨512 * t.val + p.val, row_lt t.isLt p⟩ k := by
  blk_ext [iblk, V_main_arg0, idx t]
theorem blk1 (t : Fin cfg0.N) (k : Fin 4096) (q : Fin 2048) : iblk m c 1 t (ix2 k q) = W m c k q := by
  refine Eq.trans ?_ (W_at m c k q)
  blk_ext [iblk, idx t]
theorem blk2 (t : Fin cfg0.N) (p : Fin 512) (q : Fin 2048) : iblk m c 2 t (ix2 p q) = X m c ⟨512 * t.val + p.val, row_lt t.isLt p⟩ q := by
  blk_ext [iblk, V_main_arg1, idx t]
theorem blk3 (t : Fin cfg0.N) (q : Fin 2048) : iblk m c 3 t (ix3 0 0 q) = G m c q := by
  refine Eq.trans ?_ (G_at m c q)
  blk_ext [iblk, idx t]
theorem blk4 (t : Fin cfg0.N) (q : Fin 2048) : iblk m c 4 t (ix3 0 0 q) = B m c q := by
  refine Eq.trans ?_ (B_at m c q)
  blk_ext [iblk, idx t]

/-- The kernel's array. -/
def GW (y : S8192x2048.Idx) : EReal := lnAt (outAt (Y m c) (X m c) (W m c) (y 0)) (G m c (y 1)) (B m c (y 1)) (y 1)

theorem arr_eq : ((dats m 0 c).arrAt 5 cfg0.N : Vec Ideal S8192x2048 .f32) = GW m c := by
  refine (dats m 0 c).arrAt_eq_of_covers 5 _ (by decide +kernel) fun t hf y => ?_
  blk_simp
  rw [after0_5, out_at]
  idx_vars y
  have e : (win0_5.blk t).view.emb (ix2 y0 y1) = (ix2 ⟨512 * t.val + y0.val, row_lt t.isLt y0⟩ y1 : S8192x2048.Idx) := by
    blk_ext [idx t]
  rw [e]
  show lnAt _ _ _ _ = lnAt _ _ _ _
  simp only [ix2, blk0 m c t, blk1 m c t, blk2 m c t, blk3 m c t, blk4 m c t]
  rfl

end Cert.Kernel3Ideal.Out
end
-- ==== Proof.OutRef.lean ====
/- The output projection reference's result, at an index. -/
module

public import proofs.«01_k».proof.Proof.Gen.Reference3Ideal.Run
public import proofs.«01_k».proof.Proof.OutMath
public import Idealize.ShloMosaic.Lib.Pointwise

@[expose] public section
noncomputable section
open Idealize.ShloMosaic Idealize.ShloMosaic.TcCoe Idealize.SL.Sem Idealize.ShloMosaic.StableHlo
namespace Cert.Reference3Ideal.Out
open Cert.Reference3Ideal Cert.Reference3Ideal.Gen MlpM OutM

set_option maxRecDepth 65536
set_option maxHeartbeats 1000000

/-- The residual sum, as the reference's operations write it. -/
def resV (y : Vec Ideal S8192x4096 .bf16) (x : Vec Ideal S8192x2048 .f32) (w : Vec Ideal S1x4096x2048 .f32) : Vec Ideal S8192x2048 .f32 :=
  addf (F := Ideal) (φ := .f32) (mulf (F := Ideal) (φ := .f32) (broadcastInDim S8192x2048 ![] bcast_S_S8192x2048 (constant (F := Ideal) S_ .f32 0x3FD744FD#32)) x)
    (Host.dotGeneral (F := Ideal) (φ₁ := .f32) (φ₂ := .f32) dot_S8192x4096_S4096x2048_S8192x2048_1_0_0_1_n_n none (extf (F := Ideal) (φ := .bf16) .f32 y bitsLt_bf16_f32)
      (shapeCast S4096x2048 w shapeCasts_S1x4096x2048_S4096x2048))

theorem resV_at (y : Vec Ideal S8192x4096 .bf16) (x : Vec Ideal S8192x2048 .f32) (w : Vec Ideal S1x4096x2048 .f32) (r : Fin 8192) (q : Fin 2048) :
    resV y x w (ix2 r q) = outAt (fun r k => y (ix2 r k)) (fun r q => x (ix2 r q)) (fun k q => w (ix3 0 k q)) r q := by
  unfold resV outAt
  pointwise

/-- The mean of each row. -/
def meanV (v : Vec Ideal S8192x2048 .f32) : Vec Ideal S8192x1 .f32 :=
  Host.divf (F := Ideal) (φ := .f32) (broadcastInDim S8192x1 ![0] bcast_S8192_S8192x1_0 (Host.reduceAdd (F := Ideal) (φ := .f32) v (constant (F := Ideal) S_ .f32 0x00000000#32) reducesTo_S8192x2048_S8192_d1 h_S_))
    (broadcastInDim S8192x1 ![] bcast_S_S8192x1 (constant (F := Ideal) S_ .f32 0x45000000#32))

theorem meanV_at (v : Vec Ideal S8192x2048 .f32) (r : Fin 8192) : meanV v (ix2 r 0) = meanAt (fun q => v (ix2 r q)) := by
  unfold meanV meanAt
  pointwise

/-- Each row less its mean. -/
def cenV (v : Vec Ideal S8192x2048 .f32) : Vec Ideal S8192x2048 .f32 :=
  subf (F := Ideal) (φ := .f32) v (broadcastInDim S8192x2048 ![0, 1] bcast_S8192x1_S8192x2048_0_1 (meanV v))

theorem cenV_at (v : Vec Ideal S8192x2048 .f32) (r : Fin 8192) (q : Fin 2048) : cenV v (ix2 r q) = v (ix2 r q) - meanAt (fun q => v (ix2 r q)) := by
  unfold cenV
  rw [← meanV_at]
  generalize meanV v = w
  pointwise

/-- Each row normalised. -/
def normV (v : Vec Ideal S8192x2048 .f32) (g b : Vec Ideal S2048 .f32) : Vec Ideal S8192x2048 .f32 :=
  addf (F := Ideal) (φ := .f32) (mulf (F := Ideal) (φ := .f32) (mulf (F := Ideal) (φ := .f32) (cenV v)
    (broadcastInDim S8192x2048 ![0, 1] bcast_S8192x1_S8192x2048_0_1 (Host.rsqrt (F := Ideal) (φ := .f32) (addf (F := Ideal) (φ := .f32) (meanV (mulf (F := Ideal) (φ := .f32) (cenV v) (cenV v)))
      (broadcastInDim S8192x1 ![] bcast_S_S8192x1 (constant (F := Ideal) S_ .f32 0x3727C5AC#32))))))
    (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 b))

theorem normV_at (v : Vec Ideal S8192x2048 .f32) (g b : Vec Ideal S2048 .f32) (r : Fin 8192) (q : Fin 2048) :
    normV v g b (ix2 r q) = lnAt (fun q => v (ix2 r q)) (g (ix1 q)) (b (ix1 q)) q := by
  have h1 := cenV_at v r q
  have h2 := meanV_at (mulf (F := Ideal) (φ := .f32) (cenV v) (cenV v)) r
  have h3 : ∀ x, mulf (F := Ideal) (φ := .f32) (cenV v) (cenV v) (ix2 r x) = cenV v (ix2 r x) * cenV v (ix2 r x) := fun x => by
    generalize cenV v = w
    pointwise
  simp only [h3, cenV_at] at h2
  unfold normV lnAt
  rw [← h2, ← h1]
  generalize meanV (mulf (F := Ideal) (φ := .f32) (cenV v) (cenV v)) = mv
  generalize cenV v = w
  pointwise

theorem res_eq (m : (ℓ : Loc nD τ sig) → Buf (Elt Ideal) ℓ) (c : Dev nD) :
    (Cert.Reference3Ideal.Value.res_main_v33 m c : Vec Ideal S8192x2048 .f32)
      = normV (resV (m ((c.tc : Thread nD τ).loc main_arg0)) (m ((c.tc : Thread nD τ).loc main_arg1)) (m ((c.tc : Thread nD τ).loc main_arg2)))
          (shapeCast S2048 (extractStridedSlice S1x2048 ![2, 0] (m ((c.tc : Thread nD τ).loc main_arg3) : Vec Ideal S4x2048 .f32) slices_S4x2048_S1x2048_2_0) shapeCasts_S1x2048_S2048)
          (shapeCast S2048 (extractStridedSlice S1x2048 ![2, 0] (m ((c.tc : Thread nD τ).loc main_arg4) : Vec Ideal S4x2048 .f32) slices_S4x2048_S1x2048_2_0) shapeCasts_S1x2048_S2048) := by
  unfold Cert.Reference3Ideal.Value.res_main_v33 normV cenV meanV resV
  rfl

theorem row_at (g : Vec Ideal S4x2048 .f32) (q : Fin 2048) :
    shapeCast S2048 (extractStridedSlice S1x2048 ![2, 0] g slices_S4x2048_S1x2048_2_0) shapeCasts_S1x2048_S2048 (ix1 q) = g (ix2 2 q) := by
  pointwise

theorem res_at (m : (ℓ : Loc nD τ sig) → Buf (Elt Ideal) ℓ) (c : Dev nD) (r : Fin 8192) (q : Fin 2048) :
    (Cert.Reference3Ideal.Value.res_main_v33 m c : Vec Ideal S8192x2048 .f32) (ix2 r q)
      = lnAt (outAt (fun r k => (m ((c.tc : Thread nD τ).loc main_arg0) : Vec Ideal S8192x4096 .bf16) (ix2 r k)) (fun r q => (m ((c.tc : Thread nD τ).loc main_arg1) : Vec Ideal S8192x2048 .f32) (ix2 r q))
            (fun k q => (m ((c.tc : Thread nD τ).loc main_arg2) : Vec Ideal S1x4096x2048 .f32) (ix3 0 k q)) r)
          ((m ((c.tc : Thread nD τ).loc main_arg3) : Vec Ideal S4x2048 .f32) (ix2 2 q)) ((m ((c.tc : Thread nD τ).loc main_arg4) : Vec Ideal S4x2048 .f32) (ix2 2 q)) q := by
  rw [res_eq, normV_at, row_at, row_at]
  simp only [resV_at]

end Cert.Reference3Ideal.Out
end
-- ==== Proof.ProjValue.lean ====
/- The retention's input projection: what the kernel's array holds, and the reference's. -/
module

public import proofs.«01_k».proof.Proof.Gen.Kernel4Ideal.Value
public import proofs.«01_k».proof.Proof.Gen.Reference4Ideal.Run
public import Idealize.ShloMosaic.Lib.Tactic
public import Idealize.ShloMosaic.Lib.Pipeline.Value
public import Idealize.ShloMosaic.Lib.Pipeline.ReadBack
public import Idealize.ShloMosaic.Lib.Pointwise
public import Idealize.ShloMosaic.Lib.Pipeline.ValueKit
public import Idealize.ShloMosaic.Lib.Pipeline.ValueKit.Point

@[expose] public section
set_option maxRecDepth 65536
set_option maxHeartbeats 1000000
noncomputable section
open Idealize.ShloMosaic Idealize.ShloMosaic.TcCoe Idealize.SL.Sem Idealize.ShloMosaic.StableHlo
namespace Cert.Kernel4Ideal.Proj
open Cert.Kernel4Ideal Cert.Kernel4Ideal.Gen

theorem pay_at (x : Vec Ideal S1024x2048 .f32) (w : Vec Ideal S1x2048x1024 .f32) (p q : Fin 1024) :
    k0_pay1 x w (ix2 p q) = ∑ d : Fin 2048, x (ix2 p d) * w (ix3 0 d q) := by
  unfold k0_pay1
  pointwise

theorem out_at (x : Vec Ideal S1024x2048 .f32) (w : Vec Ideal S1x2048x1024 .f32) (p q : Fin 1024) :
    out0_2 x w (ix2 p q) = ∑ d : Fin 2048, x (ix2 p d) * w (ix3 0 d q) := by
  have e0 : View.ld x r0_0 = x := View.ld_unit_zero (S := S1024x2048) (by decide) _ _
  have e1 : View.ld w r0_1 = w := View.ld_unit_zero (S := S1x2048x1024) (by decide) _ _
  have e2 : View.canon ([⟨r0_2, k0_pay1 x w⟩] : List (View.Piece (Elt Ideal) S1024x1024 .bf16)) = k0_pay1 x w := View.canon_unit_zero (S := S1024x1024) (off := ![0, 0]) (by decide) _ _
  unfold out0_2
  rw [e0, e1, e2, pay_at]

variable (m : (ℓ : Loc nD τ sig) → Buf (Elt Ideal) ℓ) (c : Dev nD)

/-- The activations and the weights, by their coordinates. -/
abbrev X (r : Fin 8192) (d : Fin 2048) : EReal := (m ((c.tc : Thread nD τ).loc main_arg0) : Vec Ideal S8192x2048 .f32) (ix2 r d)
abbrev W (d : Fin 2048) (q : Fin 12288) : EReal := (m ((c.tc : Thread nD τ).loc main_arg1) : Vec Ideal S1x2048x12288 .f32) (ix3 0 d q)

theorem idx : ∀ t : Fin cfg0.N, win0_0.index t = ![t.val / 12, 0] ∧ win0_1.index t = ![0, 0, t.val % 12] ∧ win0_2.index t = ![t.val / 12, t.val % 12] :=
  (by decide +kernel : ∀ t : Fin grid0.N, _)

theorem row_lt {n : ℕ} (hn : n < cfg0.N) (p : Fin 1024) : 1024 * (n / 12) + p.val < 8192 := by
  have : n < 96 := lt_of_lt_of_eq hn (show cfg0.N = 96 from N_0)
  omega
theorem col_lt (n : ℕ) (q : Fin 1024) : 1024 * (n % 12) + q.val < 12288 := by omega

theorem blk0 (t : Fin cfg0.N) (p : Fin 1024) (d : Fin 2048) : iblk m c 0 t (ix2 p d) = X m c ⟨1024 * (t.val / 12) + p.val, row_lt t.isLt p⟩ d := by
  blk_ext [iblk, V_main_arg0, idx t]
theorem blk1 (t : Fin cfg0.N) (d : Fin 2048) (q : Fin 1024) : iblk m c 1 t (ix3 0 d q) = W m c d ⟨1024 * (t.val % 12) + q.val, col_lt _ q⟩ := by
  blk_ext [iblk, V_main_arg1, idx t]

/-- The kernel's array. -/
def GW (y : S8192x12288.Idx) : EReal := ∑ d, X m c (y 0) d * W m c d (y 1)

theorem arr_eq : ((dats m 0 c).arrAt 2 cfg0.N : Vec Ideal S8192x12288 .bf16) = GW m c := by
  refine (dats m 0 c).arrAt_eq_of_covers 2 _ (by decide +kernel) fun t hf y => ?_
  blk_simp
  rw [after0_2]
  idx_vars y
  rw [out_at]
  have e : (win0_2.blk t).view.emb (ix2 y0 y1) = (ix2 ⟨1024 * (t.val / 12) + y0.val, row_lt t.isLt y0⟩ ⟨1024 * (t.val % 12) + y1.val, col_lt _ y1⟩ : S8192x12288.Idx) := by
    blk_ext [idx t]
  rw [e]
  simp only [blk0 m c t, blk1 m c t]
  rfl

end Cert.Kernel4Ideal.Proj

namespace Cert.Reference4Ideal.Proj
open Cert.Reference4Ideal Cert.Reference4Ideal.Gen

theorem res_at (x : Vec Ideal S8192x2048 .f32) (w : Vec Ideal S1x2048x12288 .f32) (r : Fin 8192) (q : Fin 12288) :
    truncf (F := Ideal) (φ := .f32) .bf16 (Host.dotGeneral (F := Ideal) (φ₁ := .f32) (φ₂ := .f32) dot_S8192x2048_S2048x12288_S8192x12288_1_0_0_1_n_n none x
      (shapeCast S2048x12288 w shapeCasts_S1x2048x12288_S2048x12288)) bitsLt_bf16_f32 (ix2 r q) = ∑ d : Fin 2048, x (ix2 r d) * w (ix3 0 d q) := by
  pointwise

end Cert.Reference4Ideal.Proj
end
-- ==== Proof.SsdValue.lean ====
/- The state-space input projection: what the kernel's array holds. -/
module

public import proofs.«01_k».proof.Proof.RetDefs
public import proofs.«01_k».proof.Proof.Gen.Kernel5Ideal.Value
public import Idealize.ShloMosaic.Lib.Tactic
public import Idealize.ShloMosaic.Lib.Pipeline.Value
public import Idealize.ShloMosaic.Lib.Pipeline.ReadBack
public import Idealize.ShloMosaic.Lib.Pointwise
public import Idealize.ShloMosaic.Lib.Pipeline.ValueKit
public import Idealize.ShloMosaic.Lib.Pipeline.ValueKit.Point
public import Idealize.ShloMosaic.Lib.StableHlo.RunRead
public import Idealize.ShloMosaic.Lib.StableHlo.ReadAt

@[expose] public section
set_option maxRecDepth 65536
set_option maxHeartbeats 1000000
noncomputable section
open Idealize.ShloMosaic Idealize.ShloMosaic.TcCoe Idealize.SL.Sem Idealize.ShloMosaic.StableHlo
namespace Cert.Kernel5Ideal.Ssd
open Cert.Kernel5Ideal Cert.Kernel5Ideal.Gen

/-- The gate as the kernel computes it, from half its argument. -/
def gate (h : EReal) : EReal :=
  Ideal.ofBits FTy.f32 0x3F000000#32 * h + Ideal.ofBits FTy.f32 0x3F000000#32 * h * Ideal.tanh (Ideal.ofBits FTy.f32 0x3F000000#32 * h)

theorem pay2_at (x : Vec Ideal S1024x2048 .f32) (w : Vec Ideal S1x1024x2048 .f32) (p q : Fin 1024) :
    k0_pay2 x w (ix2 p q) = ∑ d : Fin 2048, x (ix2 p d) * w (ix3 0 q d) := by
  unfold k0_pay2
  pointwise

theorem pay1_at (x : Vec Ideal S1024x2048 .f32) (w : Vec Ideal S1x1024x2048 .f32) (p q : Fin 1024) :
    k0_pay1 x w (ix2 p q) = gate (∑ d : Fin 2048, x (ix2 p d) * w (ix3 0 q d)) := by
  unfold k0_pay1 gate
  pointwise

theorem out_A (c : Dev nD) (i : grid0.Coords) (arg2 : Memref sig .tc .vmem S1024x2048 .f32) (harg2 : arg2.IsWhole) (arg3 : Memref sig .tc .vmem S1x1024x2048 .f32) (harg3 : arg3.IsWhole) (arg4 : Memref sig .tc .vmem S1024x1024 .f32) (harg4 : arg4.IsWhole) (hc0 : cond0_0 i) (hc1 : ¬cond0_1 i)
    (x0 : Vec Ideal S1024x2048 .f32) (x1 : Vec Ideal S1x1024x2048 .f32) :
    out0_A_2 c i arg2 harg2 arg3 harg3 arg4 harg4 hc0 hc1 x0 x1 = k0_pay1 x0 x1 := by
  frame_out
  done

theorem out_B (c : Dev nD) (i : grid0.Coords) (arg2 : Memref sig .tc .vmem S1024x2048 .f32) (harg2 : arg2.IsWhole) (arg3 : Memref sig .tc .vmem S1x1024x2048 .f32) (harg3 : arg3.IsWhole) (arg4 : Memref sig .tc .vmem S1024x1024 .f32) (harg4 : arg4.IsWhole) (hc0 : ¬cond0_0 i) (hc1 : cond0_1 i)
    (x0 : Vec Ideal S1024x2048 .f32) (x1 : Vec Ideal S1x1024x2048 .f32) :
    out0_B_2 c i arg2 harg2 arg3 harg3 arg4 harg4 hc0 hc1 x0 x1 = k0_pay2 x0 x1 := by
  frame_out
  done

variable (m : (ℓ : Loc nD τ sig) → Buf (Elt Ideal) ℓ) (c : Dev nD)

/-- The activations and the weights, by their coordinates. -/
abbrev X (r : Fin 8192) (d : Fin 2048) : EReal := (m ((c.tc : Thread nD τ).loc main_arg0) : Vec Ideal S8192x2048 .f32) (ix2 r d)
abbrev W (d : Fin 2048) (q : Fin 10304) : EReal := (m ((c.tc : Thread nD τ).loc main_arg1) : Vec Ideal S1x2048x10304 .f32) (ix3 0 d q)

theorem V_v0 : (V m c main_v0 : Vec Ideal S1x10304x2048 .f32) = transpose S1x10304x2048 [0, 2, 1] (m ((c.tc : Thread nD τ).loc main_arg1) : Vec Ideal S1x2048x10304 .f32) transposes_S1x2048x10304_S1x10304x2048_0_2_1 := by
  simp only [V, List.flatten_cons, List.flatten_nil, List.append_nil, List.cons_append, List.nil_append, hostOps0]
  after_reads_simp

theorem turned_at (w : Vec Ideal S1x2048x10304 .f32) (q : Fin 10304) (d : Fin 2048) :
    transpose S1x10304x2048 [0, 2, 1] w transposes_S1x2048x10304_S1x10304x2048_0_2_1 (ix3 0 q d) = w (ix3 0 d q) := by
  pointwise

theorem v0_at (q : Fin 10304) (d : Fin 2048) : (V m c main_v0 : Vec Ideal S1x10304x2048 .f32) (ix3 0 q d) = W m c d q := by
  rw [V_v0]
  exact turned_at _ q d

theorem idx : ∀ t : Fin cfg0.N, win0_0.index t = ![t.val / 10, 0] ∧ win0_1.index t = ![0, t.val % 10, 0] ∧ win0_2.index t = ![t.val / 10, t.val % 10] :=
  (by decide +kernel : ∀ t : Fin grid0.N, _)

theorem row_lt {n : ℕ} (hn : n < cfg0.N) (p : Fin 1024) : 1024 * (n / 10) + p.val < 8192 := by
  have : n < 80 := lt_of_lt_of_eq hn (show cfg0.N = 80 from N_0)
  omega
theorem col_lt (n : ℕ) (q : Fin 1024) : 1024 * (n % 10) + q.val < 10240 := by omega
theorem wcol_lt (n : ℕ) (q : Fin 1024) : 1024 * (n % 10) + q.val < 10304 := by omega

theorem blk0 (t : Fin cfg0.N) (p : Fin 1024) (d : Fin 2048) : iblk m c 0 t (ix2 p d) = X m c ⟨1024 * (t.val / 10) + p.val, row_lt t.isLt p⟩ d := by
  blk_ext [iblk, V_main_arg0, idx t]

theorem blk1 (t : Fin cfg0.N) (q : Fin 1024) (d : Fin 2048) : X0_1 m c t (ix3 0 q d) = W m c d ⟨1024 * (t.val % 10) + q.val, wcol_lt _ q⟩ := by
  rw [← v0_at]
  unfold X0_1 Pipeline.Window.fill
  rw [dif_pos (moved0_1 t _)]
  blk_ext [iblk, idx t]

/-- The product at a row and a column of the result. -/
def prodAt (r : Fin 8192) (q : Fin 10240) : EReal := ∑ d : Fin 2048, X m c r d * W m c d ⟨q.val, by omega⟩

/-- The kernel's array: the product, its first 4096 columns gated. -/
def GW (y : S8192x10240.Idx) : EReal := if (y 1).val < 4096 then gate (prodAt m c (y 0) (y 1)) else prodAt m c (y 0) (y 1)

theorem left_at (t : Fin cfg0.N) (p q : Fin 1024) :
    outsAt0 m c t.val t.isLt (ix2 p q) = GW m c (ix2 ⟨1024 * (t.val / 10) + p.val, row_lt t.isLt p⟩ ⟨1024 * (t.val % 10) + q.val, col_lt _ q⟩) := by
  by_cases h0 : t.val % 10 ≤ 3
  · rw [outsAt0_A m c t h0 (by omega), out_A, pay1_at]
    simp only [blk0 m c t, blk1 m c t]
    exact (if_pos (by show 1024 * (t.val % 10) + q.val < 4096; omega)).symm
  · rw [outsAt0_B m c t h0 (by omega), out_B, pay2_at]
    simp only [blk0 m c t, blk1 m c t]
    exact (if_neg (by show ¬1024 * (t.val % 10) + q.val < 4096; omega)).symm

theorem arr_eq : ((dats m 0 c).arrAt 2 cfg0.N : Vec Ideal S8192x10240 .f32) = GW m c := by
  refine (dats m 0 c).arrAt_eq_of_covers 2 _ (by decide +kernel) fun t hf y => ?_
  blk_simp
  rw [after0_2]
  idx_vars y
  rw [left_at m c t]
  have e : (win0_2.blk t).view.emb (ix2 y0 y1) = (ix2 ⟨1024 * (t.val / 10) + y0.val, row_lt t.isLt y0⟩ ⟨1024 * (t.val % 10) + y1.val, col_lt _ y1⟩ : S8192x10240.Idx) := by
    blk_ext [idx t]
  rw [e]

end Cert.Kernel5Ideal.Ssd
end
-- ==== Proof.SsdRef.lean ====
/- The state-space input projection: the reference's array, and the two gates on real inputs. -/
module

public import proofs.«01_k».proof.Proof.RetDefs
public import proofs.«01_k».proof.Proof.Gen.Reference5Ideal.Run
public import proofs.«01_k».proof.Proof.Gen.Pre_ssd_finite
public import Idealize.ShloMosaic.Lib.Affine
public import Idealize.ShloMosaic.Lib.Tactic
public import Idealize.ShloMosaic.Lib.Pointwise

@[expose] public section
set_option maxRecDepth 65536
set_option maxHeartbeats 1000000
noncomputable section
open Idealize.ShloMosaic Idealize.ShloMosaic.TcCoe Idealize.SL.Sem Idealize.ShloMosaic.StableHlo
namespace Cert.Reference5Ideal.Ssd
open Cert.Reference5Ideal Cert.Reference5Ideal.Gen

/-- The product at a row and a column. -/
def prodAt (x : Vec Ideal S8192x2048 .f32) (w : Vec Ideal S1x2048x10304 .f32) (r : Fin 8192) (q : Fin 10304) : EReal :=
  ∑ d : Fin 2048, x (ix2 r d) * w (ix3 0 d q)

/-- The product as the reference writes it. -/
def prodV (x : Vec Ideal S8192x2048 .f32) (w : Vec Ideal S1x2048x10304 .f32) : Vec Ideal S8192x10304 .f32 :=
  Host.dotGeneral (F := Ideal) (φ₁ := .f32) (φ₂ := .f32) dot_S8192x2048_S2048x10304_S8192x10304_1_0_0_1_n_n none x (shapeCast S2048x10304 w shapeCasts_S1x2048x10304_S2048x10304)

theorem prodV_at (x : Vec Ideal S8192x2048 .f32) (w : Vec Ideal S1x2048x10304 .f32) (r : Fin 8192) (q : Fin 10304) :
    prodV x w (ix2 r q) = prodAt x w r q := by
  unfold prodV prodAt
  pointwise

theorem gated_at (v : Vec Ideal S8192x10304 .f32) (r : Fin 8192) (q : Fin 4096) :
    (mulf (F := Ideal) (φ := .f32) (extractStridedSlice S8192x4096 ![0, 0] v slices_S8192x10304_S8192x4096_0_0) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extractStridedSlice S8192x4096 ![0, 0] v slices_S8192x10304_S8192x4096_0_0)))))) (ix2 r q)
      = v (ix2 r ⟨q.val, by omega⟩) * Ideal.div 1 (1 + Ideal.exp (-v (ix2 r ⟨q.val, by omega⟩))) := by
  pointwise

theorem rest_at (v : Vec Ideal S8192x10304 .f32) (r : Fin 8192) (q : Fin 6144) :
    extractStridedSlice S8192x6144 ![0, 4096] v slices_S8192x10304_S8192x6144_0_4096 (ix2 r q) = v (ix2 r ⟨4096 + q.val, by omega⟩) := by
  pointwise

theorem joined_at (a : Vec Ideal S8192x4096 .f32) (b : Vec Ideal S8192x6144 .f32) (r : Fin 8192) (q : Fin 10240) :
    concatenate S8192x10240 1 [⟨S8192x4096, a⟩, ⟨S8192x6144, b⟩] concatenates_S8192x4096_S8192x6144_S8192x10240_d1 (ix2 r q)
      = if h : q.val < 4096 then a (ix2 r ⟨q.val, h⟩) else b (ix2 r ⟨q.val - 4096, by omega⟩) := by
  pointwise

/-- A conjunction over all entries that holds, holds at each. -/
theorem all_bit {s t : Shape} {axes : List (Fin s.rank)} (x : IVec s 1) (v : IVec t 1) (h : s.ReducesTo axes t) (hu : 0 < t.numel) (ht : ∀ b, t.size b = 1) (j : t.Idx)
    (e : Host.reduce IntOp.andi x v h hu j = 1#1) (i : s.Idx) : x i = 1#1 := by
  rw [Host.reduce_eq_fold] at e
  have hi : i ∈ (Finset.univ.filter fun i => h.drop i = j) := Finset.mem_filter.mpr ⟨Finset.mem_univ _, funext fun b => Fin.ext (by
    have := (h.drop i b).isLt; have := (j b).isLt; have := ht b; omega)⟩
  rw [← Finset.insert_erase hi, Finset.fold_insert (Finset.notMem_erase _ _)] at e
  exact (IntOp.andi_eq_one.mp e).1

theorem real_of_lt (x : EReal) (h : FloatOps.absf (F := Ideal) (φ := .f32) x < Ideal.ofBits FTy.f32 0x7F800000#32) : x = (x.toReal : EReal) := by
  have ht : Ideal.ofBits FTy.f32 0x7F800000#32 = ⊤ := by simp [Ideal.ofBits, Ideal.ieee]
  rw [ht] at h
  change max x (-x) < ⊤ at h
  refine (EReal.coe_toReal ?_ ?_).symm
  · rintro rfl; simp at h
  · rintro rfl; simp at h

theorem real_of_pre (x : Vec Ideal S8192x2048 .f32) (w : Vec Ideal S1x2048x10304 .f32)
    (h : Cert.Pre_ssd_finite.fn (F := Ideal) x w = fun _ => 1#1) :
    (∀ r d, x (ix2 r d) = ((x (ix2 r d)).toReal : EReal)) ∧ ∀ d q, w (ix3 0 d q) = ((w (ix3 0 d q)).toReal : EReal) := by
  have h0 := congrFun h (fun a => a.elim0)
  unfold Cert.Pre_ssd_finite.fn at h0
  obtain ⟨h1, h2⟩ := IntOp.andi_eq_one.mp h0
  constructor
  · intro r d
    have hi := all_bit _ _ _ _ (fun b => b.elim0) _ h1 (ix2 r d)
    pointwise at hi
    refine real_of_lt _ ?_
    by_contra hc
    rw [decide_eq_false hc] at hi
    exact absurd hi (by decide)
  · intro d q
    have hi := all_bit _ _ _ _ (fun b => b.elim0) _ h2 (ix3 0 d q)
    pointwise at hi
    refine real_of_lt _ ?_
    by_contra hc
    rw [decide_eq_false hc] at hi
    exact absurd hi (by decide)

/-- On real inputs both gates are the same function of the product, itself real. -/
theorem prod_real (x : Vec Ideal S8192x2048 .f32) (w : Vec Ideal S1x2048x10304 .f32)
    (h : Cert.Pre_ssd_finite.fn (F := Ideal) x w = fun _ => 1#1) (r : Fin 8192) (q : Fin 10304) : ∃ g : ℝ, prodAt x w r q = (g : EReal) := by
  obtain ⟨hx, hw⟩ := real_of_pre x w h
  refine ⟨∑ d : Fin 2048, (x (ix2 r d)).toReal * (w (ix3 0 d q)).toReal, ?_⟩
  unfold prodAt
  rw [RetM.coe_sum]
  exact Finset.sum_congr rfl fun d _ => by rw [EReal.coe_mul, ← hx, ← hw]

/-- The reference's array at a row and a column. -/
theorem res_at (x : Vec Ideal S8192x2048 .f32) (w : Vec Ideal S1x2048x10304 .f32) (r : Fin 8192) (q : Fin 10240) :
    concatenate S8192x10240 1 [⟨S8192x4096, (mulf (F := Ideal) (φ := .f32) (extractStridedSlice S8192x4096 ![0, 0] (prodV x w) slices_S8192x10304_S8192x4096_0_0) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (extractStridedSlice S8192x4096 ![0, 0] (prodV x w) slices_S8192x10304_S8192x4096_0_0))))))⟩, ⟨S8192x6144, extractStridedSlice S8192x6144 ![0, 4096] (prodV x w) slices_S8192x10304_S8192x6144_0_4096⟩] concatenates_S8192x4096_S8192x6144_S8192x10240_d1 (ix2 r q)
      = if q.val < 4096 then prodAt x w r ⟨q.val, by omega⟩ * Ideal.div 1 (1 + Ideal.exp (-prodAt x w r ⟨q.val, by omega⟩)) else prodAt x w r ⟨q.val, by omega⟩ := by
  refine (joined_at _ _ r q).trans ?_
  by_cases h : q.val < 4096
  · rw [dif_pos h, if_pos h, gated_at, prodV_at]
  · rw [dif_neg h, if_neg h, rest_at, prodV_at]
    exact congrArg (prodAt x w r) (Fin.ext (by show 4096 + (q.val - 4096) = q.val; omega))

end Cert.Reference5Ideal.Ssd
end
-- ==== Proof.InValue.lean ====
/- The S5 input projection: what a grid point leaves in its block and in the carried weights, and the array the points leave together. -/
module

public import proofs.«01_k».proof.Proof.Gen.Kernel6Ideal.Value
public import proofs.«01_k».proof.Proof.Gen.Reference6Ideal.Run
public import Idealize.ShloMosaic.Lib.Tactic
public import Idealize.ShloMosaic.Lib.Pipeline.Value
public import Idealize.ShloMosaic.Lib.Pipeline.ReadBack
public import Idealize.ShloMosaic.Lib.Pointwise
public import Idealize.ShloMosaic.Lib.Pipeline.ValueKit
public import Idealize.ShloMosaic.Lib.Pipeline.ValueKit.Point

@[expose] public section
noncomputable section
open Idealize.ShloMosaic Idealize.ShloMosaic.TcCoe Idealize.SL.Sem Idealize.ShloMosaic.StableHlo
namespace Cert.Kernel6Ideal.SIn
open Cert.Kernel6Ideal Cert.Kernel6Ideal.Gen

set_option maxRecDepth 65536
set_option maxHeartbeats 1000000

theorem pay5_at (x : Vec Ideal S512x2048 .f32) (w : Vec Ideal S2048x2048 .bf16) (p : Fin 512) (q : Fin 2048) :
    k0_pay5 x w (ix2 p q) = ∑ d : Fin 2048, x (ix2 p d) * w (ix2 d q) := by
  unfold k0_pay5
  pointwise

theorem pay4_at (w : Vec Ideal S1x2048x2048 .f32) (d q : Fin 2048) : k0_pay4 w (ix2 d q) = w (ix3 0 d q) := by
  unfold k0_pay4
  pointwise

/-- Lane `l` of group `g` is column `128 g + l`. -/
def col (g : Fin 16) (l : Fin 128) : Fin 2048 := ⟨g.val * 128 + l.val, by omega⟩

/-- The block of 512 rows, its columns dealt to sixteen groups of 128. -/
def dealt (v : Vec Ideal S512x2048 .f32) (y : S16x512x128.Idx) : EReal := v (ix2 (y 1) (col (y 0) (y 2)))

theorem emb_group (n : ℕ) (hn : n < 16) (inb) (z : Fin 1) (p : Fin 512) (l : Fin 128) :
    (Rect.unit ![n, 0, 0] ![1, 512, 128] inb : Rect S16x512x128).emb (ix3 z p l) = (ix3 ⟨n, hn⟩ p l : S16x512x128.Idx) := by
  funext a
  fin_cases a <;> apply Fin.ext
  · show n + 1 * z.val = n
    omega
  · show 0 + 1 * p.val = p.val
    omega
  · show 0 + 1 * l.val = l.val
    omega

theorem piece (n : ℕ) (hn : n < 16) (inb) (v : Vec Ideal S512x2048 .f32) (pay : Vec Ideal S1x512x128 .f32)
    (h : ∀ (p : Fin 512) (l : Fin 128), pay (ix3 0 p l) = v (ix2 p (col ⟨n, hn⟩ l))) (y : S1x512x128.Idx) :
    pay y = dealt v ((Rect.unit ![n, 0, 0] ![1, 512, 128] inb : Rect S16x512x128).emb y) := by
  idx_vars y
  rw [emb_group n hn]
  have e : y0 = 0 := Subsingleton.elim _ _
  rw [e, h]
  rfl

theorem lane0 (x : Vec Ideal S512x2048 .f32) (w : Vec Ideal S2048x2048 .bf16) (p : Fin 512) (l : Fin 128) :
    (k0_pay6 x w) (ix3 0 p l) = k0_pay5 x w (ix2 p (col 0 l)) := by
  unfold k0_pay6
  generalize k0_pay5 x w = v
  pointwise
  exact congrArg (fun q => v (ix2 p q)) (Fin.ext (by show l.val = 0 * 128 + l.val; omega))
theorem lane1 (x : Vec Ideal S512x2048 .f32) (w : Vec Ideal S2048x2048 .bf16) (p : Fin 512) (l : Fin 128) :
    (k0_pay7 x w) (ix3 0 p l) = k0_pay5 x w (ix2 p (col 1 l)) := by
  unfold k0_pay7
  generalize k0_pay5 x w = v
  pointwise
  rfl
theorem lane2 (x : Vec Ideal S512x2048 .f32) (w : Vec Ideal S2048x2048 .bf16) (p : Fin 512) (l : Fin 128) :
    (k0_pay8 x w) (ix3 0 p l) = k0_pay5 x w (ix2 p (col 2 l)) := by
  unfold k0_pay8
  generalize k0_pay5 x w = v
  pointwise
  rfl
theorem lane3 (x : Vec Ideal S512x2048 .f32) (w : Vec Ideal S2048x2048 .bf16) (p : Fin 512) (l : Fin 128) :
    (k0_pay9 x w) (ix3 0 p l) = k0_pay5 x w (ix2 p (col 3 l)) := by
  unfold k0_pay9
  generalize k0_pay5 x w = v
  pointwise
  rfl
theorem lane4 (x : Vec Ideal S512x2048 .f32) (w : Vec Ideal S2048x2048 .bf16) (p : Fin 512) (l : Fin 128) :
    (k0_pay10 x w) (ix3 0 p l) = k0_pay5 x w (ix2 p (col 4 l)) := by
  unfold k0_pay10
  generalize k0_pay5 x w = v
  pointwise
  rfl
theorem lane5 (x : Vec Ideal S512x2048 .f32) (w : Vec Ideal S2048x2048 .bf16) (p : Fin 512) (l : Fin 128) :
    (k0_pay12 (k0_pay11 x w)) (ix3 0 p l) = k0_pay5 x w (ix2 p (col 5 l)) := by
  unfold k0_pay12 k0_pay11
  generalize k0_pay5 x w = v
  pointwise
  rfl
theorem lane6 (v : Vec Ideal S512x2048 .f32) (p : Fin 512) (l : Fin 128) : k0_pay13 (F := Ideal) v (ix3 0 p l) = v (ix2 p (col 6 l)) := by
  unfold k0_pay13
  pointwise
  rfl
theorem lane7 (v : Vec Ideal S512x2048 .f32) (p : Fin 512) (l : Fin 128) : k0_pay14 (F := Ideal) v (ix3 0 p l) = v (ix2 p (col 7 l)) := by
  unfold k0_pay14
  pointwise
  rfl
theorem lane8 (v : Vec Ideal S512x2048 .f32) (p : Fin 512) (l : Fin 128) : k0_pay15 (F := Ideal) v (ix3 0 p l) = v (ix2 p (col 8 l)) := by
  unfold k0_pay15
  pointwise
  rfl
theorem lane9 (v : Vec Ideal S512x2048 .f32) (p : Fin 512) (l : Fin 128) : k0_pay16 (F := Ideal) v (ix3 0 p l) = v (ix2 p (col 9 l)) := by
  unfold k0_pay16
  pointwise
  rfl
theorem lane10 (v : Vec Ideal S512x2048 .f32) (p : Fin 512) (l : Fin 128) : k0_pay17 (F := Ideal) v (ix3 0 p l) = v (ix2 p (col 10 l)) := by
  unfold k0_pay17
  pointwise
  rfl
theorem lane11 (v : Vec Ideal S512x2048 .f32) (p : Fin 512) (l : Fin 128) : k0_pay18 (F := Ideal) v (ix3 0 p l) = v (ix2 p (col 11 l)) := by
  unfold k0_pay18
  pointwise
  rfl
theorem lane12 (v : Vec Ideal S512x2048 .f32) (p : Fin 512) (l : Fin 128) : k0_pay19 (F := Ideal) v (ix3 0 p l) = v (ix2 p (col 12 l)) := by
  unfold k0_pay19
  pointwise
  rfl
theorem lane13 (v : Vec Ideal S512x2048 .f32) (p : Fin 512) (l : Fin 128) : k0_pay1 (F := Ideal) v (ix3 0 p l) = v (ix2 p (col 13 l)) := by
  unfold k0_pay1
  pointwise
  rfl
theorem lane14 (v : Vec Ideal S512x2048 .f32) (p : Fin 512) (l : Fin 128) : k0_pay2 (F := Ideal) v (ix3 0 p l) = v (ix2 p (col 14 l)) := by
  unfold k0_pay2
  pointwise
  rfl
theorem lane15 (v : Vec Ideal S512x2048 .f32) (p : Fin 512) (l : Fin 128) : k0_pay3 (F := Ideal) v (ix3 0 p l) = v (ix2 p (col 15 l)) := by
  unfold k0_pay3
  pointwise
  rfl

/-- The sixteen stores of a grid point, the last first. -/
def stores (x : Vec Ideal S512x2048 .f32) (w : Vec Ideal S2048x2048 .bf16) : List (View.Piece (Elt Ideal) S16x512x128 .f32) :=
  [⟨Rect.unit ![15, 0, 0] ![1, 512, 128] inb_S16x512x128_S1x512x128_15_0_0, k0_pay3 (k0_pay5 x w)⟩,
    ⟨Rect.unit ![14, 0, 0] ![1, 512, 128] inb_S16x512x128_S1x512x128_14_0_0, k0_pay2 (k0_pay5 x w)⟩,
    ⟨Rect.unit ![13, 0, 0] ![1, 512, 128] inb_S16x512x128_S1x512x128_13_0_0, k0_pay1 (k0_pay5 x w)⟩,
    ⟨Rect.unit ![12, 0, 0] ![1, 512, 128] inb_S16x512x128_S1x512x128_12_0_0, k0_pay19 (k0_pay5 x w)⟩,
    ⟨Rect.unit ![11, 0, 0] ![1, 512, 128] inb_S16x512x128_S1x512x128_11_0_0, k0_pay18 (k0_pay5 x w)⟩,
    ⟨Rect.unit ![10, 0, 0] ![1, 512, 128] inb_S16x512x128_S1x512x128_10_0_0, k0_pay17 (k0_pay5 x w)⟩,
    ⟨Rect.unit ![9, 0, 0] ![1, 512, 128] inb_S16x512x128_S1x512x128_9_0_0, k0_pay16 (k0_pay5 x w)⟩,
    ⟨Rect.unit ![8, 0, 0] ![1, 512, 128] inb_S16x512x128_S1x512x128_8_0_0, k0_pay15 (k0_pay5 x w)⟩,
    ⟨Rect.unit ![7, 0, 0] ![1, 512, 128] inb_S16x512x128_S1x512x128_7_0_0, k0_pay14 (k0_pay5 x w)⟩,
    ⟨Rect.unit ![6, 0, 0] ![1, 512, 128] inb_S16x512x128_S1x512x128_6_0_0, k0_pay13 (k0_pay5 x w)⟩,
    ⟨Rect.unit ![5, 0, 0] ![1, 512, 128] inb_S16x512x128_S1x512x128_5_0_0, k0_pay12 (k0_pay11 x w)⟩,
    ⟨Rect.unit ![4, 0, 0] ![1, 512, 128] inb_S16x512x128_S1x512x128_4_0_0, k0_pay10 x w⟩,
    ⟨Rect.unit ![3, 0, 0] ![1, 512, 128] inb_S16x512x128_S1x512x128_3_0_0, k0_pay9 x w⟩,
    ⟨Rect.unit ![2, 0, 0] ![1, 512, 128] inb_S16x512x128_S1x512x128_2_0_0, k0_pay8 x w⟩,
    ⟨Rect.unit ![1, 0, 0] ![1, 512, 128] inb_S16x512x128_S1x512x128_1_0_0, k0_pay7 x w⟩,
    ⟨Rect.unit ![0, 0, 0] ![1, 512, 128] inb_S16x512x128_S1x512x128_0_0_0, k0_pay6 x w⟩]

theorem stores_canon (x : Vec Ideal S512x2048 .f32) (w : Vec Ideal S2048x2048 .bf16) (y : S16x512x128.Idx) :
    View.canon (stores x w) y = dealt (k0_pay5 x w) y := by
  refine View.canon_append_of_piecesOf (Val := Elt Ideal) (e := .f32) (dealt (k0_pay5 x w)) [] (stores x w) ?_ y
    (View.cover_of_tiledL (stores x w) S1x512x128.size (by sl_kernel_rfl) y)
  exact ⟨piece 15 (by omega) inb_S16x512x128_S1x512x128_15_0_0 _ _ (lane15 (k0_pay5 x w)),
    piece 14 (by omega) inb_S16x512x128_S1x512x128_14_0_0 _ _ (lane14 (k0_pay5 x w)),
    piece 13 (by omega) inb_S16x512x128_S1x512x128_13_0_0 _ _ (lane13 (k0_pay5 x w)),
    piece 12 (by omega) inb_S16x512x128_S1x512x128_12_0_0 _ _ (lane12 (k0_pay5 x w)),
    piece 11 (by omega) inb_S16x512x128_S1x512x128_11_0_0 _ _ (lane11 (k0_pay5 x w)),
    piece 10 (by omega) inb_S16x512x128_S1x512x128_10_0_0 _ _ (lane10 (k0_pay5 x w)),
    piece 9 (by omega) inb_S16x512x128_S1x512x128_9_0_0 _ _ (lane9 (k0_pay5 x w)),
    piece 8 (by omega) inb_S16x512x128_S1x512x128_8_0_0 _ _ (lane8 (k0_pay5 x w)),
    piece 7 (by omega) inb_S16x512x128_S1x512x128_7_0_0 _ _ (lane7 (k0_pay5 x w)),
    piece 6 (by omega) inb_S16x512x128_S1x512x128_6_0_0 _ _ (lane6 (k0_pay5 x w)),
    piece 5 (by omega) inb_S16x512x128_S1x512x128_5_0_0 _ _ (lane5 x w),
    piece 4 (by omega) inb_S16x512x128_S1x512x128_4_0_0 _ _ (lane4 x w),
    piece 3 (by omega) inb_S16x512x128_S1x512x128_3_0_0 _ _ (lane3 x w),
    piece 2 (by omega) inb_S16x512x128_S1x512x128_2_0_0 _ _ (lane2 x w),
    piece 1 (by omega) inb_S16x512x128_S1x512x128_1_0_0 _ _ (lane1 x w),
    piece 0 (by omega) inb_S16x512x128_S1x512x128_0_0_0 _ _ (lane0 x w), trivial⟩

theorem out_B (c : Dev nD) (i : grid0.Coords) (arg1 : Memref sig .tc .vmem S512x2048 .f32) (harg1 : arg1.IsWhole) (arg2 : Memref sig .tc .vmem S1x2048x2048 .f32) (harg2 : arg2.IsWhole) (arg3 : Memref sig .tc .vmem S16x512x128 .f32) (harg3 : arg3.IsWhole) (arg4 : Memref sig .tc .vmem S2048x2048 .bf16) (harg4 : arg4.IsWhole) (hc0 : ¬cond0_0 i)
    (x0 : Vec Ideal S512x2048 .f32) (x1 : Vec Ideal S1x2048x2048 .f32) (xs0 : Vec Ideal S2048x2048 .bf16) (y : S16x512x128.Idx) :
    out0_B_2 c i arg1 harg1 arg2 harg2 arg3 harg3 arg4 harg4 hc0 x0 x1 xs0 y = dealt (k0_pay5 x0 xs0) y := by
  frame_out
  exact stores_canon x0 xs0 y

theorem out_A (c : Dev nD) (i : grid0.Coords) (arg1 : Memref sig .tc .vmem S512x2048 .f32) (harg1 : arg1.IsWhole) (arg2 : Memref sig .tc .vmem S1x2048x2048 .f32) (harg2 : arg2.IsWhole) (arg3 : Memref sig .tc .vmem S16x512x128 .f32) (harg3 : arg3.IsWhole) (arg4 : Memref sig .tc .vmem S2048x2048 .bf16) (harg4 : arg4.IsWhole) (hc0 : cond0_0 i)
    (x0 : Vec Ideal S512x2048 .f32) (x1 : Vec Ideal S1x2048x2048 .f32) (y : S16x512x128.Idx) :
    out0_A_2 c i arg1 harg1 arg2 harg2 arg3 harg3 arg4 harg4 hc0 x0 x1 y = dealt (k0_pay5 x0 (k0_pay4 x1)) y := by
  frame_open
  simp (disch := decide) only [↓ View.readCov_skip, ↓ View.readCov_cons_toLoadRect, ↓ View.readCov_fill]
  frame_out
  exact stores_canon x0 (k0_pay4 x1) y

theorem sout_A (c : Dev nD) (i : grid0.Coords) (arg1 : Memref sig .tc .vmem S512x2048 .f32) (harg1 : arg1.IsWhole) (arg2 : Memref sig .tc .vmem S1x2048x2048 .f32) (harg2 : arg2.IsWhole) (arg3 : Memref sig .tc .vmem S16x512x128 .f32) (harg3 : arg3.IsWhole) (arg4 : Memref sig .tc .vmem S2048x2048 .bf16) (harg4 : arg4.IsWhole) (hc0 : cond0_0 i)
    (x0 : Vec Ideal S512x2048 .f32) (x1 : Vec Ideal S1x2048x2048 .f32) (y : S2048x2048.Idx) :
    sout0_A_0 c i arg1 harg1 arg2 harg2 arg3 harg3 arg4 harg4 hc0 x0 x1 y = k0_pay4 x1 y := by
  frame_open
  simp (disch := decide) only [↓ View.readCov_skip, ↓ View.readCov_cons_toLoadRect, ↓ View.readCov_fill]
  frame_out
  done

variable (m : (ℓ : Loc nD τ sig) → Buf (Elt Ideal) ℓ) (c : Dev nD)

/-- The activations and the weights of the second S5 layer, by their coordinates. -/
abbrev X (r : Fin 8192) (d : Fin 2048) : EReal := (m ((c.tc : Thread nD τ).loc main_arg0) : Vec Ideal S8192x2048 .f32) (ix2 r d)
abbrev W (d q : Fin 2048) : EReal := (m ((c.tc : Thread nD τ).loc main_arg1) : Vec Ideal S2x2048x2048 .f32) (ix3 1 d q)

theorem idx : ∀ t : Fin cfg0.N, win0_0.index t = ![t.val, 0] ∧ win0_1.index t = ![1, 0, 0] ∧ win0_2.index t = ![0, t.val, 0] :=
  (by decide +kernel : ∀ t : Fin grid0.N, _)

theorem row_lt {n : ℕ} (hn : n < cfg0.N) (p : Fin 512) : 512 * n + p.val < 8192 := by
  have : n < 16 := lt_of_lt_of_eq hn (show cfg0.N = 16 from N_0)
  omega

theorem blk0 (t : Fin cfg0.N) (p : Fin 512) (d : Fin 2048) : iblk m c 0 t (ix2 p d) = X m c ⟨512 * t.val + p.val, row_lt t.isLt p⟩ d := by
  blk_ext [iblk, V_main_arg0, idx t]
theorem blk1 (t : Fin cfg0.N) (d q : Fin 2048) : iblk m c 1 t (ix3 0 d q) = W m c d q := by
  blk_ext [iblk, V_main_arg1, idx t]

theorem carried_A (t : Fin cfg0.N) (h0 : t.val % 16 = 0) (d q : Fin 2048) : (outsAt0 m c t.val t.isLt).2 (ix2 d q) = W m c d q := by
  rw [outsAt0_A m c t h0]
  dsimp only
  rw [sout_A, pay4_at, blk1]

theorem carried_B (t : Fin cfg0.N) (h0 : ¬t.val % 16 = 0) (d q : Fin 2048)
    (ih : (outsAt0 m c (t.val - 1) (Nat.lt_of_le_of_lt (Nat.sub_le _ _) t.isLt)).2 (ix2 d q) = W m c d q) : (outsAt0 m c t.val t.isLt).2 (ix2 d q) = W m c d q := by
  rw [outsAt0_B m c t h0]
  dsimp only
  unfold sout0_B_0
  exact ih

/-- After every grid point the carried block is the layer's weights. -/
theorem carried (d q : Fin 2048) : ∀ (n : ℕ) (hn : n < cfg0.N), (outsAt0 m c n hn).2 (ix2 d q) = W m c d q
  | 0, hn => carried_A m c ⟨0, hn⟩ rfl d q
  | n + 1, hn => by
    by_cases h0 : (n + 1) % 16 = 0
    · exact carried_A m c ⟨n + 1, hn⟩ h0 d q
    · exact carried_B m c ⟨n + 1, hn⟩ h0 d q (carried d q n (by omega))

/-- The kernel's array. -/
def GW (y : S16x8192x128.Idx) : EReal := ∑ d, X m c (y 1) d * W m c d (col (y 0) (y 2))

theorem left_at (t : Fin cfg0.N) (g : Fin 16) (p : Fin 512) (l : Fin 128) :
    (outsAt0 m c t.val t.isLt).1 (ix3 g p l) = ∑ d, X m c ⟨512 * t.val + p.val, row_lt t.isLt p⟩ d * W m c d (col g l) := by
  by_cases h0 : t.val % 16 = 0
  · rw [outsAt0_A m c t h0]
    dsimp only
    rw [out_A]
    show k0_pay5 _ _ (ix2 p (col g l)) = _
    rw [pay5_at]
    simp only [pay4_at, blk0 m c t, blk1 m c t]
  · rw [outsAt0_B m c t h0]
    dsimp only
    rw [out_B]
    show k0_pay5 _ _ (ix2 p (col g l)) = _
    rw [pay5_at]
    simp only [carried m c, blk0 m c t]

theorem arr_eq : ((dats m 0 c).arrAt 2 cfg0.N : Vec Ideal S16x8192x128 .f32) = GW m c := by
  refine (dats m 0 c).arrAt_eq_of_covers 2 _ (by decide +kernel) fun t hf y => ?_
  blk_simp
  rw [after0_2]
  idx_vars y
  rw [left_at m c t]
  have e : (win0_2.blk t).view.emb (ix3 y0 y1 y2) = (ix3 y0 ⟨512 * t.val + y1.val, row_lt t.isLt y1⟩ y2 : S16x8192x128.Idx) := by
    blk_ext [idx t]
  rw [e]
  rfl

end Cert.Kernel6Ideal.SIn

namespace Cert.Reference6Ideal.SIn
open Cert.Reference6Ideal Cert.Reference6Ideal.Gen

theorem res_at (x : Vec Ideal S8192x2048 .f32) (w : Vec Ideal S2x2048x2048 .f32) (g : Fin 16) (r : Fin 8192) (l : Fin 128) :
    transpose S16x8192x128 [1, 0, 2] (shapeCast S8192x16x128 (Host.dotGeneral (F := Ideal) (φ₁ := .f32) (φ₂ := .f32) dot_S8192x2048_S2048x2048_S8192x2048_1_0_0_1_n_n none x
      (shapeCast S2048x2048 (extractStridedSlice S1x2048x2048 ![1, 0, 0] w slices_S2x2048x2048_S1x2048x2048_1_0_0) shapeCasts_S1x2048x2048_S2048x2048))
      shapeCasts_S8192x2048_S8192x16x128) transposes_S8192x16x128_S16x8192x128_1_0_2 (ix3 g r l)
      = ∑ d : Fin 2048, x (ix2 r d) * w (ix3 1 d ⟨g.val * 128 + l.val, by omega⟩) := by
  pointwise

end Cert.Reference6Ideal.SIn
end
-- ==== Proof.SOutValue.lean ====
/- The S5 output's kernel: what a grid point leaves in its block, and the array the points leave together. -/
module

public import proofs.«01_k».proof.Proof.Gen.Kernel7Ideal.Value
public import proofs.«01_k».proof.Proof.OutMath
public import Idealize.ShloMosaic.Lib.Tactic
public import Idealize.ShloMosaic.Lib.Pipeline.Value
public import Idealize.ShloMosaic.Lib.Pipeline.ReadBack
public import Idealize.ShloMosaic.Lib.Pointwise
public import Idealize.ShloMosaic.Lib.Pipeline.ValueKit
public import Idealize.ShloMosaic.Lib.Pipeline.ValueKit.Point
public import Idealize.ShloMosaic.Lib.StableHlo.RunRead
public import Idealize.ShloMosaic.Lib.StableHlo.ReadAt

@[expose] public section
noncomputable section
open Idealize.ShloMosaic Idealize.ShloMosaic.TcCoe Idealize.SL.Sem Idealize.ShloMosaic.StableHlo
namespace Cert.Kernel7Ideal.SOut
open Cert.Kernel7Ideal Cert.Kernel7Ideal.Gen MlpM OutM

set_option maxRecDepth 65536
set_option maxHeartbeats 1000000

/-- The rows' sums before the norm, from the joined lanes. -/
def gateV (h : FVec Ideal S256x2048 .bf16) (w v : Vec Ideal S1x2048x2048 .bf16) (x : Vec Ideal S256x2048 .f32) : FVec Ideal S256x2048 .f32 :=
  addf (F := Ideal) (φ := .f32) (mulf (F := Ideal) (φ := .f32) (broadcast S256x2048 (Scalar.ofBits (F := Ideal) .f32 0x3FD744FD#32)) x)
    (mulf (F := Ideal) (φ := .f32) (matmul (F := Ideal) (φ₁ := .bf16) (φ₂ := .bf16) dot_S256x2048_S2048x2048_S256x2048_1_0_0_1_n_n none h (shapeCast S2048x2048 w shapeCasts_S1x2048x2048_S2048x2048) (constant S256x2048 .f32 0x00000000#32))
      (logistic (F := Ideal) (φ := .f32) (matmul (F := Ideal) (φ₁ := .bf16) (φ₂ := .bf16) dot_S256x2048_S2048x2048_S256x2048_1_0_0_1_n_n none h (shapeCast S2048x2048 v shapeCasts_S1x2048x2048_S2048x2048) (constant S256x2048 .f32 0x00000000#32))))

theorem gateV_at (h : FVec Ideal S256x2048 .bf16) (w v : Vec Ideal S1x2048x2048 .bf16) (x : Vec Ideal S256x2048 .f32) (p : Fin 256) (q : Fin 2048) :
    gateV h w v x (ix2 p q) = Ideal.ofBits FTy.f32 0x3FD744FD#32 * x (ix2 p q)
      + (∑ k : Fin 2048, h (ix2 p k) * w (ix3 0 k q)) * Ideal.logistic (∑ k : Fin 2048, h (ix2 p k) * v (ix3 0 k q)) := by
  unfold gateV
  pointwise

/-- The norm of the rows, as the kernel's operations write it. -/
def normK (z : FVec Ideal S256x2048 .f32) (g b : Vec Ideal S1x1x2048 .f32) : FVec Ideal S256x2048 .f32 :=
  k0_pay17 z (k0_pay14 g) (k0_pay15 b)
    (shapeCast S256x1 (multiReduction (F := Ideal) (φ := .f32) .add [1] S256 z 0x00000000#32 reduces_S256x2048_S256 (.inl rfl) rfl) shapeCasts_S256_S256x1) (Scalar.ofBits .f32 0x45000000#32)

theorem normK_at (z : FVec Ideal S256x2048 .f32) (g b : Vec Ideal S1x1x2048 .f32) (p : Fin 256) (q : Fin 2048) :
    normK z g b (ix2 p q) = lnAt (fun x => z (ix2 p x)) (g (ix3 0 0 q)) (b (ix3 0 0 q)) q := by
  unfold normK k0_pay17 k0_pay14 k0_pay15 lnAt meanAt
  pointwise

/-- Sixteen pieces of lanes joined, at an entry. -/
theorem cat_at (v : Fin 16 → FVec Ideal S256x128 .f32) (p : Fin 256) (k : Fin 2048) :
    concatenate S256x2048 1 [⟨S256x128, v 0⟩, ⟨S256x128, v 1⟩, ⟨S256x128, v 2⟩, ⟨S256x128, v 3⟩, ⟨S256x128, v 4⟩, ⟨S256x128, v 5⟩, ⟨S256x128, v 6⟩, ⟨S256x128, v 7⟩, ⟨S256x128, v 8⟩, ⟨S256x128, v 9⟩, ⟨S256x128, v 10⟩, ⟨S256x128, v 11⟩, ⟨S256x128, v 12⟩, ⟨S256x128, v 13⟩, ⟨S256x128, v 14⟩, ⟨S256x128, v 15⟩] concatenates_S256x128_S256x128_S256x128_S256x128_S256x128_S256x128_S256x128_S256x128_S256x128_S256x128_S256x128_S256x128_S256x128_S256x128_S256x128_S256x128_S256x2048_d1 (ix2 p k)
      = v ⟨k.val / 128, by omega⟩ (ix2 p ⟨k.val % 128, by omega⟩) := by
  refine concatenate_ofFn_apply (t := S256x2048) (s₁ := S256x128) 1 v concatenates_S256x128_S256x128_S256x128_S256x128_S256x128_S256x128_S256x128_S256x128_S256x128_S256x128_S256x128_S256x128_S256x128_S256x128_S256x128_S256x128_S256x2048_d1 rfl 128 rfl (ix2 p k) ⟨k.val / 128, by omega⟩ rfl
    (ix2 p ⟨k.val % 128, by omega⟩) rfl fun b hb => ?_
  fin_cases b
  · rfl
  · exact absurd rfl hb

/-- A piece of lanes as loaded, at an entry. -/
theorem piece_at (n o : ℕ) (h) (x : Vec Ideal S16x512x128 .f32) (p : Fin 256) (l : Fin 128) (hn : n < 16) (hb : o + p.val < 512) :
    shapeCast S256x128 (View.ld x (Rect.unit (s := S16x512x128) ![n, o, 0] ![1, 256, 128] h)) shapeCasts_S1x256x128_S256x128 (ix2 p l)
      = x (ix3 ⟨n, hn⟩ ⟨o + p.val, hb⟩ l) := by
  have e : ∀ w : Vec Ideal S1x256x128 .f32, shapeCast S256x128 w shapeCasts_S1x256x128_S256x128 (ix2 p l) = w (ix3 0 p l) := fun w => by pointwise
  rw [e]
  refine congrArg x ?_
  funext a
  fin_cases a
  · apply Fin.ext
    show n + 1 * 0 = n
    omega
  · apply Fin.ext
    show o + 1 * p.val = o + p.val
    omega
  · apply Fin.ext
    show 0 + 1 * l.val = l.val
    omega

/-- A row of the block's features, the sixteen groups of lanes side by side. -/
def hB (x : Vec Ideal S16x512x128 .f32) (p : Fin 512) (k : Fin 2048) : EReal := x (ix3 ⟨k.val / 128, by omega⟩ p ⟨k.val % 128, by omega⟩)

section
variable (x0 : Vec Ideal S16x512x128 .f32) (x1 x2 : Vec Ideal S1x2048x2048 .bf16) (x3 : Vec Ideal S512x2048 .f32) (x4 x5 : Vec Ideal S1x1x2048 .f32)

/-- The two halves' pieces of lanes. -/
def lo : Fin 16 → FVec Ideal S256x128 .f32 :=
  ![k0_pay28 x0 x1 x2 x3 x4 x5,
    k0_pay29 x0 x1 x2 x3 x4 x5,
    k0_pay30 x0 x1 x2 x3 x4 x5,
    k0_pay31 x0 x1 x2 x3 x4 x5,
    k0_pay32 x0 x1 x2 x3 x4 x5,
    k0_pay33 x0 x1 x2 x3 x4 x5,
    k0_pay34 x0 x1 x2 x3 x4 x5,
    k0_pay35 x0 x1 x2 x3 x4 x5,
    k0_pay36 x0 x1 x2 x3 x4 x5,
    k0_pay37 x0 x1 x2 x3 x4 x5,
    k0_pay38 x0 x1 x2 x3 x4 x5,
    shapeCast S256x128 (View.ld x0 r0_11) shapeCasts_S1x256x128_S256x128,
    shapeCast S256x128 (View.ld x0 r0_12) shapeCasts_S1x256x128_S256x128,
    shapeCast S256x128 (View.ld x0 r0_13) shapeCasts_S1x256x128_S256x128,
    shapeCast S256x128 (View.ld x0 r0_14) shapeCasts_S1x256x128_S256x128,
    shapeCast S256x128 (View.ld x0 r0_15) shapeCasts_S1x256x128_S256x128]
def hi : Fin 16 → FVec Ideal S256x128 .f32 :=
  ![k0_pay39 x0 x1 x2 x3 x4 x5,
    k0_pay40 x0 x1 x2 x3 x4 x5,
    k0_pay41 x0 x1 x2 x3 x4 x5,
    k0_pay42 x0 x1 x2 x3 x4 x5,
    k0_pay43 x0 x1 x2 x3 x4 x5,
    k0_pay44 x0 x1 x2 x3 x4 x5,
    k0_pay45 x0 x1 x2 x3 x4 x5,
    shapeCast S256x128 (View.ld x0 r0_26) shapeCasts_S1x256x128_S256x128,
    shapeCast S256x128 (View.ld x0 r0_27) shapeCasts_S1x256x128_S256x128,
    shapeCast S256x128 (View.ld x0 r0_28) shapeCasts_S1x256x128_S256x128,
    shapeCast S256x128 (View.ld x0 r0_29) shapeCasts_S1x256x128_S256x128,
    shapeCast S256x128 (View.ld x0 r0_30) shapeCasts_S1x256x128_S256x128,
    shapeCast S256x128 (View.ld x0 r0_31) shapeCasts_S1x256x128_S256x128,
    shapeCast S256x128 (View.ld x0 r0_32) shapeCasts_S1x256x128_S256x128,
    shapeCast S256x128 (View.ld x0 r0_33) shapeCasts_S1x256x128_S256x128,
    shapeCast S256x128 (View.ld x0 r0_34) shapeCasts_S1x256x128_S256x128]

theorem lo_at (n : Fin 16) (p : Fin 256) (l : Fin 128) : lo x0 x1 x2 x3 x4 x5 n (ix2 p l) = x0 (ix3 n ⟨0 + p.val, by omega⟩ l) := by
  fin_cases n
  · exact piece_at 0 0 _ x0 p l (by omega) (by omega)
  · exact piece_at 1 0 _ x0 p l (by omega) (by omega)
  · exact piece_at 2 0 _ x0 p l (by omega) (by omega)
  · exact piece_at 3 0 _ x0 p l (by omega) (by omega)
  · exact piece_at 4 0 _ x0 p l (by omega) (by omega)
  · exact piece_at 5 0 _ x0 p l (by omega) (by omega)
  · exact piece_at 6 0 _ x0 p l (by omega) (by omega)
  · exact piece_at 7 0 _ x0 p l (by omega) (by omega)
  · exact piece_at 8 0 _ x0 p l (by omega) (by omega)
  · exact piece_at 9 0 _ x0 p l (by omega) (by omega)
  · exact piece_at 10 0 _ x0 p l (by omega) (by omega)
  · exact piece_at 11 0 _ x0 p l (by omega) (by omega)
  · exact piece_at 12 0 _ x0 p l (by omega) (by omega)
  · exact piece_at 13 0 _ x0 p l (by omega) (by omega)
  · exact piece_at 14 0 _ x0 p l (by omega) (by omega)
  · exact piece_at 15 0 _ x0 p l (by omega) (by omega)
theorem hi_at (n : Fin 16) (p : Fin 256) (l : Fin 128) : hi x0 x1 x2 x3 x4 x5 n (ix2 p l) = x0 (ix3 n ⟨256 + p.val, by omega⟩ l) := by
  fin_cases n
  · exact piece_at 0 256 _ x0 p l (by omega) (by omega)
  · exact piece_at 1 256 _ x0 p l (by omega) (by omega)
  · exact piece_at 2 256 _ x0 p l (by omega) (by omega)
  · exact piece_at 3 256 _ x0 p l (by omega) (by omega)
  · exact piece_at 4 256 _ x0 p l (by omega) (by omega)
  · exact piece_at 5 256 _ x0 p l (by omega) (by omega)
  · exact piece_at 6 256 _ x0 p l (by omega) (by omega)
  · exact piece_at 7 256 _ x0 p l (by omega) (by omega)
  · exact piece_at 8 256 _ x0 p l (by omega) (by omega)
  · exact piece_at 9 256 _ x0 p l (by omega) (by omega)
  · exact piece_at 10 256 _ x0 p l (by omega) (by omega)
  · exact piece_at 11 256 _ x0 p l (by omega) (by omega)
  · exact piece_at 12 256 _ x0 p l (by omega) (by omega)
  · exact piece_at 13 256 _ x0 p l (by omega) (by omega)
  · exact piece_at 14 256 _ x0 p l (by omega) (by omega)
  · exact piece_at 15 256 _ x0 p l (by omega) (by omega)

/-- The lanes joined. -/
def cat (v : Fin 16 → FVec Ideal S256x128 .f32) : FVec Ideal S256x2048 .bf16 :=
  truncf (F := Ideal) (φ := .f32) .bf16 (concatenate S256x2048 1 [⟨S256x128, v 0⟩, ⟨S256x128, v 1⟩, ⟨S256x128, v 2⟩, ⟨S256x128, v 3⟩, ⟨S256x128, v 4⟩, ⟨S256x128, v 5⟩, ⟨S256x128, v 6⟩, ⟨S256x128, v 7⟩, ⟨S256x128, v 8⟩, ⟨S256x128, v 9⟩, ⟨S256x128, v 10⟩, ⟨S256x128, v 11⟩, ⟨S256x128, v 12⟩, ⟨S256x128, v 13⟩, ⟨S256x128, v 14⟩, ⟨S256x128, v 15⟩] concatenates_S256x128_S256x128_S256x128_S256x128_S256x128_S256x128_S256x128_S256x128_S256x128_S256x128_S256x128_S256x128_S256x128_S256x128_S256x128_S256x128_S256x2048_d1) bitsLt_bf16_f32

theorem lo_row (p : Fin 256) (k : Fin 2048) : cat (lo x0 x1 x2 x3 x4 x5) (ix2 p k) = hB x0 ⟨0 + p.val, by omega⟩ k :=
  (cat_at _ p k).trans (lo_at x0 x1 x2 x3 x4 x5 _ p _)
theorem hi_row (p : Fin 256) (k : Fin 2048) : cat (hi x0 x1 x2 x3 x4 x5) (ix2 p k) = hB x0 ⟨256 + p.val, by omega⟩ k :=
  (cat_at _ p k).trans (hi_at x0 x1 x2 x3 x4 x5 _ p _)

/-- What a grid point stores, the last first. -/
def stores : List (View.Piece (Elt Ideal) S512x2048 .f32) :=
  [⟨r0_35, normK (gateV (cat (hi x0 x1 x2 x3 x4 x5)) x1 x2 (View.ld x3 r0_35)) x4 x5⟩, ⟨r0_17, normK (gateV (cat (lo x0 x1 x2 x3 x4 x5)) x1 x2 (View.ld x3 r0_17)) x4 x5⟩]

theorem ld_w (x : Vec Ideal S1x2048x2048 .bf16) : View.ld x r0_16 = x := View.ld_unit_zero (S := S1x2048x2048) (by decide) _ _
theorem ld_g (x : Vec Ideal S1x1x2048 .f32) : View.ld x r0_18 = x := View.ld_unit_zero (S := S1x1x2048) (by decide) _ _

theorem out_eq : out0_6 x0 x1 x2 x3 x4 x5 = View.canon (stores x0 x1 x2 x3 x4 x5) := by
  unfold out0_6
  rw [ld_w, ld_w, ld_g, ld_g]
  rfl

/-- An entry of a slab of rows, in the whole block. -/
theorem emb_row (o : ℕ) (h) (w0 : Fin 256) (w1 : Fin 2048) (hb : o + w0.val < 512) :
    (Rect.unit (s := S512x2048) ![o, 0] ![256, 2048] h).emb (ix2 w0 w1) = (ix2 ⟨o + w0.val, hb⟩ w1 : S512x2048.Idx) := by
  funext a
  fin_cases a
  · apply Fin.ext
    show o + 1 * w0.val = o + w0.val
    omega
  · apply Fin.ext
    show 0 + 1 * w1.val = w1.val
    omega

/-- A row of the output block, normalised. -/
def blkAt (y : S512x2048.Idx) : EReal :=
  lnAt (fun z => Ideal.ofBits FTy.f32 0x3FD744FD#32 * x3 (ix2 (y 0) z) + (∑ k : Fin 2048, hB x0 (y 0) k * x1 (ix3 0 k z)) * Ideal.logistic (∑ k : Fin 2048, hB x0 (y 0) k * x2 (ix3 0 k z)))
    (x4 (ix3 0 0 (y 1))) (x5 (ix3 0 0 (y 1))) (y 1)

theorem ld_x (o : ℕ) (h) (x : Vec Ideal S512x2048 .f32) (p : Fin 256) (q : Fin 2048) (hb : o + p.val < 512) :
    View.ld x (Rect.unit (s := S512x2048) ![o, 0] ![256, 2048] h) (ix2 p q) = x (ix2 ⟨o + p.val, hb⟩ q) :=
  congrArg x (emb_row o h p q hb)

theorem out_at (y : S512x2048.Idx) : out0_6 x0 x1 x2 x3 x4 x5 y = blkAt x0 x1 x2 x3 x4 x5 y := by
  rw [out_eq]
  refine View.canon_append_of_piecesOf (Val := Elt Ideal) (e := .f32) (blkAt x0 x1 x2 x3 x4 x5) [] (stores x0 x1 x2 x3 x4 x5) ⟨fun w => ?_, fun w => ?_, trivial⟩ y (cover0_6 _ _ y)
  · idx_vars w
    rw [emb_row 256 _ w0 w1 (by omega), normK_at]
    unfold blkAt
    simp only [gateV_at, hi_row, ld_x 256 _ x3 w0 _ (by omega)]
    rfl
  · idx_vars w
    rw [emb_row 0 _ w0 w1 (by omega), normK_at]
    unfold blkAt
    simp only [gateV_at, lo_row, ld_x 0 _ x3 w0 _ (by omega)]
    rfl
end

variable (m : (ℓ : Loc nD τ sig) → Buf (Elt Ideal) ℓ) (c : Dev nD)

/-- The layer's features, the activations, the two weights and the norm's, by their coordinates. -/
abbrev H (r : Fin 8192) (k : Fin 2048) : EReal := (m ((c.tc : Thread nD τ).loc main_arg0) : Vec Ideal S16x8192x128 .f32) (ix3 ⟨k.val / 128, by omega⟩ r ⟨k.val % 128, by omega⟩)
abbrev X (r : Fin 8192) (q : Fin 2048) : EReal := (m ((c.tc : Thread nD τ).loc main_arg1) : Vec Ideal S8192x2048 .f32) (ix2 r q)
abbrev W (k : Fin 2048) (q : Fin 2048) : EReal := (m ((c.tc : Thread nD τ).loc main_arg2) : Vec Ideal S2x2048x2048 .f32) (ix3 1 k q)
abbrev Wg (k : Fin 2048) (q : Fin 2048) : EReal := (m ((c.tc : Thread nD τ).loc main_arg3) : Vec Ideal S2x2048x2048 .f32) (ix3 1 k q)
abbrev G (q : Fin 2048) : EReal := (m ((c.tc : Thread nD τ).loc main_arg4) : Vec Ideal S4x2048 .f32) (ix2 3 q)
abbrev B (q : Fin 2048) : EReal := (m ((c.tc : Thread nD τ).loc main_arg5) : Vec Ideal S4x2048 .f32) (ix2 3 q)

theorem V_v0 : (V m c main_v0 : Vec Ideal S4x1x2048 .f32) = broadcastInDim S4x1x2048 ![0, 2] bcast_S4x2048_S4x1x2048_0_2 (m ((c.tc : Thread nD τ).loc main_arg4) : Vec Ideal S4x2048 .f32) := by
  simp only [V, List.flatten_cons, List.flatten_nil, List.append_nil, List.cons_append, List.nil_append, hostOps0]
  after_reads_simp
theorem V_v1 : (V m c main_v1 : Vec Ideal S4x1x2048 .f32) = broadcastInDim S4x1x2048 ![0, 2] bcast_S4x2048_S4x1x2048_0_2 (m ((c.tc : Thread nD τ).loc main_arg5) : Vec Ideal S4x2048 .f32) := by
  simp only [V, List.flatten_cons, List.flatten_nil, List.append_nil, List.cons_append, List.nil_append, hostOps0]
  after_reads_simp
theorem V_v2 : (V m c main_v2 : Vec Ideal S2x2048x2048 .bf16) = truncf (F := Ideal) (φ := .f32) .bf16 (m ((c.tc : Thread nD τ).loc main_arg2) : Vec Ideal S2x2048x2048 .f32) bitsLt_bf16_f32 := by
  simp only [V, List.flatten_cons, List.flatten_nil, List.append_nil, List.cons_append, List.nil_append, hostOps0]
  after_reads_simp
theorem V_v3 : (V m c main_v3 : Vec Ideal S2x2048x2048 .bf16) = truncf (F := Ideal) (φ := .f32) .bf16 (m ((c.tc : Thread nD τ).loc main_arg3) : Vec Ideal S2x2048x2048 .f32) bitsLt_bf16_f32 := by
  simp only [V, List.flatten_cons, List.flatten_nil, List.append_nil, List.cons_append, List.nil_append, hostOps0]
  after_reads_simp
theorem G_at (q : Fin 2048) : (V m c main_v0 : Vec Ideal S4x1x2048 .f32) (ix3 3 0 q) = G m c q := by
  rw [V_v0]; pointwise
theorem B_at (q : Fin 2048) : (V m c main_v1 : Vec Ideal S4x1x2048 .f32) (ix3 3 0 q) = B m c q := by
  rw [V_v1]; pointwise
theorem W_at (k : Fin 2048) (q : Fin 2048) : (V m c main_v2 : Vec Ideal S2x2048x2048 .bf16) (ix3 1 k q) = W m c k q := by
  rw [V_v2]; rfl
theorem Wg_at (k : Fin 2048) (q : Fin 2048) : (V m c main_v3 : Vec Ideal S2x2048x2048 .bf16) (ix3 1 k q) = Wg m c k q := by
  rw [V_v3]; rfl

theorem idx : ∀ t : Fin cfg0.N, win0_0.index t = ![0, t.val, 0] ∧ win0_1.index t = ![1, 0, 0] ∧ win0_2.index t = ![1, 0, 0] ∧ win0_3.index t = ![t.val, 0]
    ∧ win0_4.index t = ![3, 0, 0] ∧ win0_5.index t = ![3, 0, 0] ∧ win0_6.index t = ![t.val, 0] :=
  (by decide +kernel : ∀ t : Fin grid0.N, _)

/-- The row of the array that row `p` of the block of point `n` is. -/
theorem row_lt {n : ℕ} (hn : n < cfg0.N) (p : Fin 512) : 512 * n + p.val < 8192 := by
  have : n < 16 := lt_of_lt_of_eq hn (show cfg0.N = 16 from N_0)
  omega

theorem blk0' (t : Fin cfg0.N) (n : Fin 16) (p : Fin 512) (l : Fin 128) :
    iblk m c 0 t (ix3 n p l) = (m ((c.tc : Thread nD τ).loc main_arg0) : Vec Ideal S16x8192x128 .f32) (ix3 n ⟨512 * t.val + p.val, row_lt t.isLt p⟩ l) := by
  blk_ext [iblk, V_main_arg0, idx t]
theorem blk0 (t : Fin cfg0.N) (p : Fin 512) (k : Fin 2048) : hB (iblk m c 0 t) p k = H m c ⟨512 * t.val + p.val, row_lt t.isLt p⟩ k :=
  blk0' m c t _ p _
theorem blk1 (t : Fin cfg0.N) (k : Fin 2048) (q : Fin 2048) : iblk m c 1 t (ix3 0 k q) = W m c k q := by
  refine Eq.trans ?_ (W_at m c k q)
  blk_ext [iblk, idx t]
theorem blk2 (t : Fin cfg0.N) (k : Fin 2048) (q : Fin 2048) : iblk m c 2 t (ix3 0 k q) = Wg m c k q := by
  refine Eq.trans ?_ (Wg_at m c k q)
  blk_ext [iblk, idx t]
theorem blk3 (t : Fin cfg0.N) (p : Fin 512) (q : Fin 2048) : iblk m c 3 t (ix2 p q) = X m c ⟨512 * t.val + p.val, row_lt t.isLt p⟩ q := by
  blk_ext [iblk, V_main_arg1, idx t]
theorem blk4 (t : Fin cfg0.N) (q : Fin 2048) : iblk m c 4 t (ix3 0 0 q) = G m c q := by
  refine Eq.trans ?_ (G_at m c q)
  blk_ext [iblk, idx t]
theorem blk5 (t : Fin cfg0.N) (q : Fin 2048) : iblk m c 5 t (ix3 0 0 q) = B m c q := by
  refine Eq.trans ?_ (B_at m c q)
  blk_ext [iblk, idx t]

/-- The kernel's array. -/
def GW (y : S8192x2048.Idx) : EReal := lnAt (gateAt (H m c) (X m c) (W m c) (Wg m c) (y 0)) (G m c (y 1)) (B m c (y 1)) (y 1)

theorem arr_eq : ((dats m 0 c).arrAt 6 cfg0.N : Vec Ideal S8192x2048 .f32) = GW m c := by
  refine (dats m 0 c).arrAt_eq_of_covers 6 _ (by decide +kernel) fun t hf y => ?_
  blk_simp
  rw [after0_6, out_at]
  idx_vars y
  have e : (win0_6.blk t).view.emb (ix2 y0 y1) = (ix2 ⟨512 * t.val + y0.val, row_lt t.isLt y0⟩ y1 : S8192x2048.Idx) := by
    blk_ext [idx t]
  rw [e]
  show lnAt _ _ _ _ = lnAt _ _ _ _
  simp only [ix2, blk0 m c t, blk1 m c t, blk2 m c t, blk3 m c t, blk4 m c t, blk5 m c t]
  rfl

end Cert.Kernel7Ideal.SOut
end
-- ==== Proof.SOutRef.lean ====
/- The S5 output reference's result, at an index. -/
module

public import proofs.«01_k».proof.Proof.Gen.Reference7Ideal.Run
public import proofs.«01_k».proof.Proof.OutMath
public import Idealize.ShloMosaic.Lib.Pointwise

@[expose] public section
noncomputable section
open Idealize.ShloMosaic Idealize.ShloMosaic.TcCoe Idealize.SL.Sem Idealize.ShloMosaic.StableHlo
namespace Cert.Reference7Ideal.SOut
open Cert.Reference7Ideal Cert.Reference7Ideal.Gen MlpM OutM

set_option maxRecDepth 65536
set_option maxHeartbeats 1000000

/-- The residual sum, as the reference's operations write it. -/
def resV (hg : Vec Ideal S16x8192x128 .f32) (x : Vec Ideal S8192x2048 .f32) (w v : Vec Ideal S2x2048x2048 .f32) : Vec Ideal S8192x2048 .f32 :=
  addf (F := Ideal) (φ := .f32) (mulf (F := Ideal) (φ := .f32) (broadcastInDim S8192x2048 ![] bcast_S_S8192x2048 (constant (F := Ideal) S_ .f32 0x3FD744FD#32)) x)
    (mulf (F := Ideal) (φ := .f32) (Host.dotGeneral (F := Ideal) (φ₁ := .f32) (φ₂ := .f32) dot_S8192x2048_S2048x2048_S8192x2048_1_0_0_1_n_n none
      (shapeCast S8192x2048 (transpose S8192x16x128 [1, 0, 2] hg transposes_S16x8192x128_S8192x16x128_1_0_2) shapeCasts_S8192x16x128_S8192x2048)
      (shapeCast S2048x2048 (extractStridedSlice S1x2048x2048 ![1, 0, 0] w slices_S2x2048x2048_S1x2048x2048_1_0_0) shapeCasts_S1x2048x2048_S2048x2048))
    (Host.divf (F := Ideal) (φ := .f32) (broadcastInDim S8192x2048 ![] bcast_S_S8192x2048 (constant (F := Ideal) S_ .f32 0x3F800000#32)) (addf (F := Ideal) (φ := .f32) (broadcastInDim S8192x2048 ![] bcast_S_S8192x2048 (constant (F := Ideal) S_ .f32 0x3F800000#32)) (Host.exp (F := Ideal) (φ := .f32) (Host.negf (F := Ideal) (φ := .f32)
      (Host.dotGeneral (F := Ideal) (φ₁ := .f32) (φ₂ := .f32) dot_S8192x2048_S2048x2048_S8192x2048_1_0_0_1_n_n none
      (shapeCast S8192x2048 (transpose S8192x16x128 [1, 0, 2] hg transposes_S16x8192x128_S8192x16x128_1_0_2) shapeCasts_S8192x16x128_S8192x2048)
      (shapeCast S2048x2048 (extractStridedSlice S1x2048x2048 ![1, 0, 0] v slices_S2x2048x2048_S1x2048x2048_1_0_0) shapeCasts_S1x2048x2048_S2048x2048)))))))

/-- The features of a row, as the reference lays them out. -/
theorem feat_at (hg : Vec Ideal S16x8192x128 .f32) (r : Fin 8192) (k : Fin 2048) :
    (shapeCast S8192x2048 (transpose S8192x16x128 [1, 0, 2] hg transposes_S16x8192x128_S8192x16x128_1_0_2) shapeCasts_S8192x16x128_S8192x2048) (ix2 r k) = hg (ix3 ⟨k.val / 128, by omega⟩ r ⟨k.val % 128, by omega⟩) := by
  pointwise

theorem resV_at (hg : Vec Ideal S16x8192x128 .f32) (x : Vec Ideal S8192x2048 .f32) (w v : Vec Ideal S2x2048x2048 .f32) (r : Fin 8192) (q : Fin 2048) :
    resV hg x w v (ix2 r q) = gateAt (fun r k => hg (ix3 ⟨k.val / 128, by omega⟩ r ⟨k.val % 128, by omega⟩)) (fun r q => x (ix2 r q)) (fun k q => w (ix3 1 k q)) (fun k q => v (ix3 1 k q)) r q := by
  unfold resV gateAt
  simp only [← feat_at]
  generalize (shapeCast S8192x2048 (transpose S8192x16x128 [1, 0, 2] hg transposes_S16x8192x128_S8192x16x128_1_0_2) shapeCasts_S8192x16x128_S8192x2048) = h
  pointwise
  rfl

/-- The mean of each row. -/
def meanV (v : Vec Ideal S8192x2048 .f32) : Vec Ideal S8192x1 .f32 :=
  Host.divf (F := Ideal) (φ := .f32) (broadcastInDim S8192x1 ![0] bcast_S8192_S8192x1_0 (Host.reduceAdd (F := Ideal) (φ := .f32) v (constant (F := Ideal) S_ .f32 0x00000000#32) reducesTo_S8192x2048_S8192_d1 h_S_))
    (broadcastInDim S8192x1 ![] bcast_S_S8192x1 (constant (F := Ideal) S_ .f32 0x45000000#32))

theorem meanV_at (v : Vec Ideal S8192x2048 .f32) (r : Fin 8192) : meanV v (ix2 r 0) = meanAt (fun q => v (ix2 r q)) := by
  unfold meanV meanAt
  pointwise

/-- Each row less its mean. -/
def cenV (v : Vec Ideal S8192x2048 .f32) : Vec Ideal S8192x2048 .f32 :=
  subf (F := Ideal) (φ := .f32) v (broadcastInDim S8192x2048 ![0, 1] bcast_S8192x1_S8192x2048_0_1 (meanV v))

theorem cenV_at (v : Vec Ideal S8192x2048 .f32) (r : Fin 8192) (q : Fin 2048) : cenV v (ix2 r q) = v (ix2 r q) - meanAt (fun q => v (ix2 r q)) := by
  unfold cenV
  rw [← meanV_at]
  generalize meanV v = w
  pointwise

/-- Each row normalised. -/
def normV (v : Vec Ideal S8192x2048 .f32) (g b : Vec Ideal S2048 .f32) : Vec Ideal S8192x2048 .f32 :=
  addf (F := Ideal) (φ := .f32) (mulf (F := Ideal) (φ := .f32) (mulf (F := Ideal) (φ := .f32) (cenV v)
    (broadcastInDim S8192x2048 ![0, 1] bcast_S8192x1_S8192x2048_0_1 (Host.rsqrt (F := Ideal) (φ := .f32) (addf (F := Ideal) (φ := .f32) (meanV (mulf (F := Ideal) (φ := .f32) (cenV v) (cenV v)))
      (broadcastInDim S8192x1 ![] bcast_S_S8192x1 (constant (F := Ideal) S_ .f32 0x3727C5AC#32))))))
    (broadcastInDim S8192x2048 ![0, 1] bcast_S1x2048_S8192x2048_0_1 (broadcastInDim S1x2048 ![1] bcast_S2048_S1x2048_1 g)))
    (broadcastInDim S8192x2048 ![0, 1] bcast_S1x2048_S8192x2048_0_1 (broadcastInDim S1x2048 ![1] bcast_S2048_S1x2048_1 b))

theorem normV_at (v : Vec Ideal S8192x2048 .f32) (g b : Vec Ideal S2048 .f32) (r : Fin 8192) (q : Fin 2048) :
    normV v g b (ix2 r q) = lnAt (fun q => v (ix2 r q)) (g (ix1 q)) (b (ix1 q)) q := by
  have h1 := cenV_at v r q
  have h2 := meanV_at (mulf (F := Ideal) (φ := .f32) (cenV v) (cenV v)) r
  have h3 : ∀ x, mulf (F := Ideal) (φ := .f32) (cenV v) (cenV v) (ix2 r x) = cenV v (ix2 r x) * cenV v (ix2 r x) := fun x => by
    generalize cenV v = w
    pointwise
  simp only [h3, cenV_at] at h2
  unfold normV lnAt
  rw [← h2, ← h1]
  generalize meanV (mulf (F := Ideal) (φ := .f32) (cenV v) (cenV v)) = mv
  generalize cenV v = w
  pointwise

theorem res_eq (m : (ℓ : Loc nD τ sig) → Buf (Elt Ideal) ℓ) (c : Dev nD) :
    (Cert.Reference7Ideal.Value.res_main_v45 m c : Vec Ideal S8192x2048 .f32)
      = normV (resV (m ((c.tc : Thread nD τ).loc main_arg0)) (m ((c.tc : Thread nD τ).loc main_arg1)) (m ((c.tc : Thread nD τ).loc main_arg2)) (m ((c.tc : Thread nD τ).loc main_arg3)))
          (shapeCast S2048 (extractStridedSlice S1x2048 ![3, 0] (m ((c.tc : Thread nD τ).loc main_arg4) : Vec Ideal S4x2048 .f32) slices_S4x2048_S1x2048_3_0) shapeCasts_S1x2048_S2048)
          (shapeCast S2048 (extractStridedSlice S1x2048 ![3, 0] (m ((c.tc : Thread nD τ).loc main_arg5) : Vec Ideal S4x2048 .f32) slices_S4x2048_S1x2048_3_0) shapeCasts_S1x2048_S2048) := by
  unfold Cert.Reference7Ideal.Value.res_main_v45 normV cenV meanV resV
  rfl

theorem row_at (g : Vec Ideal S4x2048 .f32) (q : Fin 2048) :
    shapeCast S2048 (extractStridedSlice S1x2048 ![3, 0] g slices_S4x2048_S1x2048_3_0) shapeCasts_S1x2048_S2048 (ix1 q) = g (ix2 3 q) := by
  pointwise

theorem res_at (m : (ℓ : Loc nD τ sig) → Buf (Elt Ideal) ℓ) (c : Dev nD) (r : Fin 8192) (q : Fin 2048) :
    (Cert.Reference7Ideal.Value.res_main_v45 m c : Vec Ideal S8192x2048 .f32) (ix2 r q)
      = lnAt (gateAt (fun r k => (m ((c.tc : Thread nD τ).loc main_arg0) : Vec Ideal S16x8192x128 .f32) (ix3 ⟨k.val / 128, by omega⟩ r ⟨k.val % 128, by omega⟩))
            (fun r q => (m ((c.tc : Thread nD τ).loc main_arg1) : Vec Ideal S8192x2048 .f32) (ix2 r q))
            (fun k q => (m ((c.tc : Thread nD τ).loc main_arg2) : Vec Ideal S2x2048x2048 .f32) (ix3 1 k q)) (fun k q => (m ((c.tc : Thread nD τ).loc main_arg3) : Vec Ideal S2x2048x2048 .f32) (ix3 1 k q)) r)
          ((m ((c.tc : Thread nD τ).loc main_arg4) : Vec Ideal S4x2048 .f32) (ix2 3 q)) ((m ((c.tc : Thread nD τ).loc main_arg5) : Vec Ideal S4x2048 .f32) (ix2 3 q)) q := by
  rw [res_eq, normV_at, row_at, row_at]
  simp only [resV_at]

end Cert.Reference7Ideal.SOut
end
-- ==== Proof.lean ====
module

public import proofs.«01_k».proof.Defs
public import proofs.«01_k».proof.Proof.Gen.Kernel.Frame
public import proofs.«01_k».proof.Proof.KValue
public import proofs.«01_k».proof.Proof.RefLoop
public import proofs.«01_k».proof.Proof.RefOut
public import proofs.«01_k».proof.Proof.Gen.ReferenceIdeal
public import proofs.«01_k».proof.Proof.Gen.Pre_proj_finite
public import proofs.«01_k».proof.Proof.Gen.Kernel2.Frame
public import proofs.«01_k».proof.Proof.Gen.Reference2Ideal
public import proofs.«01_k».proof.Proof.Gen.Pre_ssd_finite
public import proofs.«01_k».proof.Proof.Gen.Kernel3.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.MlpValue
public import proofs.«01_k».proof.Proof.MlpRef
public import proofs.«01_k».proof.Proof.OutValue
public import proofs.«01_k».proof.Proof.OutRef
public import proofs.«01_k».proof.Proof.ProjValue
public import proofs.«01_k».proof.Proof.SsdValue
public import proofs.«01_k».proof.Proof.SsdRef
public import proofs.«01_k».proof.Proof.InValue
public import proofs.«01_k».proof.Proof.SOutValue
public import proofs.«01_k».proof.Proof.SOutRef
public import Idealize.ShloMosaic.Adequacy
public import Idealize.ShloMosaic.Init
public import Idealize.ShloMosaic.Lib.Pointwise

@[expose] public section

noncomputable section

namespace Cert.Proof

open Idealize.ShloMosaic Idealize.ShloMosaic.TcCoe Idealize.SL.Sem Cert.Kernel

/-- The precondition says that every entry of the projections is a real number. -/
theorem finite_of_pre (X : FVec Ideal Cert.Pre_proj_finite.S8192x12288 .bf16)
    (h : Cert.Pre_proj_finite.fn (F := Ideal) X = fun _ => 1#1) (i : Cert.Pre_proj_finite.S8192x12288.Idx) :
    X i = ((X i).toReal : EReal) := by
  have hi := congrFun h i
  unfold Cert.Pre_proj_finite.fn at hi
  idx_vars i
  pointwise at hi
  have hi : FloatOps.absf (F := Ideal) (φ := .f32) (X (ix2 i0 i1)) < Ideal.ofBits FTy.f32 0x7F800000#32 := by
    by_contra hc
    rw [decide_eq_false hc] at hi
    exact absurd hi (by decide)
  have ht : Ideal.ofBits FTy.f32 0x7F800000#32 = ⊤ := by simp [Ideal.ofBits, Ideal.ieee]
  rw [ht] at hi
  generalize X (ix2 i0 i1) = x at hi ⊢
  change max x (-x) < ⊤ at hi
  refine (EReal.coe_toReal ?_ ?_).symm
  · rintro rfl; simp at hi
  · rintro rfl; simp at hi

/-- The reference has no semaphore: its counters are zero. -/
theorem ref_sem {α : Type} [Zero α] (f : GSem Cert.ReferenceIdeal.nD Cert.ReferenceIdeal.τ Cert.ReferenceIdeal.sig → α) : f = fun _ => 0 :=
  funext fun g => by
    rcases g with ⟨_, s⟩
    cases s with
    | reg s => exact s.elim0
    | dma s => exact s.elim0

theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, ref_sem _⟩) (Cert.ReferenceIdeal.Value.run m g)

/-- The reference's projections. -/
abbrev Xr (m : (ℓ : Loc Cert.ReferenceIdeal.nD Cert.ReferenceIdeal.τ Cert.ReferenceIdeal.sig) → Buf (Elt Ideal) ℓ) (c : Dev Cert.ReferenceIdeal.nD) : Vec Ideal Cert.ReferenceIdeal.S8192x12288 .bf16 :=
  m ((c.tc : Thread Cert.ReferenceIdeal.nD Cert.ReferenceIdeal.τ).loc Cert.ReferenceIdeal.main_arg0)

theorem value : Cert.algebraic_KernelIdeal_ReferenceIdeal_pre_proj_finite (hKernelIdeal := Cert.KernelIdeal.Gen.facts)
    (hReferenceIdeal := Cert.ReferenceIdeal.Gen.facts) (hPre_proj_finite := Cert.Pre_proj_finite.Gen.facts) := by
  intro m g m' g' hp hm
  refine ⟨fun c => Cert.KernelIdeal.Value.G10 m c, Cert.KernelIdeal.Value.run m g, ?_⟩
  refine (θ_run _ _ _).mono (fun r h c => ⟨(h c).1.trans ?_, (h c).2⟩) (Cert.ReferenceIdeal.Value.run m' g')
  have hX := finite_of_pre _ (hp c)
  have hX' : ∀ i, Xr m' c i = ((Xr m' c i).toReal : EReal) := by
    rw [show Xr m' c = _ from hm c]; exact hX
  have I := Cert.ReferenceIdeal.Ret.inv_iter _ hX' m' c rfl 32 le_rfl
  funext i
  refine (Cert.ReferenceIdeal.Ret.out_at _ _ hX' (Cert.ReferenceIdeal.Value.iter_main_arg0 m' c 32) (fun j b h r e => I.out j j.2 b h r e) i).trans ?_
  refine Eq.trans ?_ (Cert.KernelIdeal.Ret.G10_eq m c hX i).symm
  rw [show Xr m' c = Cert.KernelIdeal.Ret.X m c from hm c]

/-- The second reference has no semaphore either. -/
theorem ref_sem2 {α : Type} [Zero α] (f : GSem Cert.Reference2Ideal.nD Cert.Reference2Ideal.τ Cert.Reference2Ideal.sig → α) : f = fun _ => 0 :=
  funext fun g => by
    rcases g with ⟨_, s⟩
    cases s with
    | reg s => exact s.elim0
    | dma s => exact s.elim0

theorem frame_ref2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2, ref_sem2 _⟩) (Cert.Reference2Ideal.Value.run m g)

theorem value2 : Cert.algebraic_Kernel2Ideal_Reference2Ideal (hKernel2Ideal := Cert.Kernel2Ideal.Gen.facts) (hReference2Ideal := Cert.Reference2Ideal.Gen.facts) := by
  intro m g m' g' _ hm
  refine ⟨fun c => Cert.Kernel2Ideal.Mlp.GW m c, (θ_run _ _ _).mono (fun r h c => ⟨(h c).1.trans (Cert.Kernel2Ideal.Mlp.arr_eq m c), (h c).2⟩) (Cert.Kernel2Ideal.Value.run_blocks m g), ?_⟩
  refine (θ_run _ _ _).mono (fun r h c => ⟨(h c).1.trans ?_, (h c).2⟩) (Cert.Reference2Ideal.Value.run m' g')
  obtain ⟨h0, h1, h2, h3, h4⟩ := hm c
  funext i
  idx_vars i
  refine (Cert.Reference2Ideal.Mlp.res_at m' c i0 i1).trans ?_
  rw [h0, h1, h2, h3, h4]
  rfl

/-- The third reference has no semaphore either. -/
theorem ref_sem3 {α : Type} [Zero α] (f : GSem Cert.Reference3Ideal.nD Cert.Reference3Ideal.τ Cert.Reference3Ideal.sig → α) : f = fun _ => 0 :=
  funext fun g => by
    rcases g with ⟨_, s⟩
    cases s with
    | reg s => exact s.elim0
    | dma s => exact s.elim0

theorem frame_ref3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run _ _ _).mono (fun r h => ⟨fun c => (h c).2, ref_sem3 _⟩) (Cert.Reference3Ideal.Value.run m g)

/-- The fourth reference has no semaphore either. -/
theorem ref_sem4 {α : Type} [Zero α] (f : GSem Cert.Reference4Ideal.nD Cert.Reference4Ideal.τ Cert.Reference4Ideal.sig → α) : f = fun _ => 0 :=
  funext fun g => by
    rcases g with ⟨_, s⟩
    cases s with
    | reg s => exact s.elim0
    | dma s => exact s.elim0

theorem frame_ref4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run _ _ _).mono (fun r h => ⟨fun c => (h c).2, ref_sem4 _⟩) (Cert.Reference4Ideal.Value.run m g)

/-- The fifth reference has no semaphore either. -/
theorem ref_sem5 {α : Type} [Zero α] (f : GSem Cert.Reference5Ideal.nD Cert.Reference5Ideal.τ Cert.Reference5Ideal.sig → α) : f = fun _ => 0 :=
  funext fun g => by
    rcases g with ⟨_, s⟩
    cases s with
    | reg s => exact s.elim0
    | dma s => exact s.elim0

theorem frame_ref5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2, ref_sem5 _⟩) (Cert.Reference5Ideal.Value.run m g)

/-- The sixth reference has no semaphore either. -/
theorem ref_sem6 {α : Type} [Zero α] (f : GSem Cert.Reference6Ideal.nD Cert.Reference6Ideal.τ Cert.Reference6Ideal.sig → α) : f = fun _ => 0 :=
  funext fun g => by
    rcases g with ⟨_, s⟩
    cases s with
    | reg s => exact s.elim0
    | dma s => exact s.elim0

theorem frame_ref6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run _ _ _).mono (fun r h => ⟨fun c => (h c).2, ref_sem6 _⟩) (Cert.Reference6Ideal.Value.run m g)

/-- The seventh reference has no semaphore either. -/
theorem ref_sem7 {α : Type} [Zero α] (f : GSem Cert.Reference7Ideal.nD Cert.Reference7Ideal.τ Cert.Reference7Ideal.sig → α) : f = fun _ => 0 :=
  funext fun g => by
    rcases g with ⟨_, s⟩
    cases s with
    | reg s => exact s.elim0
    | dma s => exact s.elim0

theorem frame_ref7 (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0) :=
  (θ_run _ _ _).mono (fun r h => ⟨fun c => (h c).2, ref_sem7 _⟩) (Cert.Reference7Ideal.Value.run m g)

theorem value3 : Cert.algebraic_Kernel3Ideal_Reference3Ideal (hKernel3Ideal := Cert.Kernel3Ideal.Gen.facts) (hReference3Ideal := Cert.Reference3Ideal.Gen.facts) := by
  intro m g m' g' _ hm
  refine ⟨fun c => Cert.Kernel3Ideal.Out.GW m c, (θ_run _ _ _).mono (fun r h c => ⟨(h c).1.trans (Cert.Kernel3Ideal.Out.arr_eq m c), (h c).2⟩) (Cert.Kernel3Ideal.Value.run_blocks m g), ?_⟩
  refine (θ_run _ _ _).mono (fun r h c => ⟨(h c).1.trans ?_, (h c).2⟩) (Cert.Reference3Ideal.Value.run m' g')
  obtain ⟨h0, h1, h2, h3, h4⟩ := hm c
  funext i
  idx_vars i
  refine (Cert.Reference3Ideal.Out.res_at m' c i0 i1).trans ?_
  rw [h0, h1, h2, h3, h4]
  rfl

theorem value4 : Cert.algebraic_Kernel4Ideal_Reference4Ideal (hKernel4Ideal := Cert.Kernel4Ideal.Gen.facts) (hReference4Ideal := Cert.Reference4Ideal.Gen.facts) := by
  intro m g m' g' _ hm
  refine ⟨fun c => Cert.Kernel4Ideal.Proj.GW m c, (θ_run _ _ _).mono (fun r h c => ⟨(h c).1.trans (Cert.Kernel4Ideal.Proj.arr_eq m c), (h c).2⟩) (Cert.Kernel4Ideal.Value.run_blocks m g), ?_⟩
  refine (θ_run _ _ _).mono (fun r h c => ⟨(h c).1.trans ?_, (h c).2⟩) (Cert.Reference4Ideal.Value.run m' g')
  obtain ⟨h0, h1⟩ := hm c
  funext i
  idx_vars i
  refine (Cert.Reference4Ideal.Proj.res_at _ _ i0 i1).trans ?_
  rw [h0, h1]
  rfl

theorem value5 : Cert.algebraic_Kernel5Ideal_Reference5Ideal_pre_ssd_finite (hKernel5Ideal := Cert.Kernel5Ideal.Gen.facts) (hReference5Ideal := Cert.Reference5Ideal.Gen.facts) (hPre_ssd_finite := Cert.Pre_ssd_finite.Gen.facts) := by
  intro m g m' g' hp hm
  refine ⟨fun c => Cert.Kernel5Ideal.Ssd.GW m c, (θ_run _ _ _).mono (fun r h c => ⟨(h c).1.trans (Cert.Kernel5Ideal.Ssd.arr_eq m c), (h c).2⟩) (Cert.Kernel5Ideal.Value.run_blocks m g), ?_⟩
  refine (θ_run _ _ _).mono (fun r h c => ⟨(h c).1.trans ?_, (h c).2⟩) (Cert.Reference5Ideal.Value.run m' g')
  obtain ⟨h0, h1⟩ := hm c
  funext i
  idx_vars i
  refine (Cert.Reference5Ideal.Ssd.res_at _ _ i0 i1).trans ?_
  rw [h0, h1]
  obtain ⟨s, hs⟩ := Cert.Reference5Ideal.Ssd.prod_real _ _ (hp c) i0 ⟨i1.val, by omega⟩
  refine Eq.trans ?_ (show (if i1.val < 4096 then Cert.Kernel5Ideal.Ssd.gate (Cert.Kernel5Ideal.Ssd.prodAt m c i0 i1) else Cert.Kernel5Ideal.Ssd.prodAt m c i0 i1) = Cert.Kernel5Ideal.Ssd.GW m c (ix2 i0 i1) from rfl)
  rw [hs, show Cert.Kernel5Ideal.Ssd.prodAt m c i0 i1 = (s : EReal) from hs]
  refine if_congr Iff.rfl ?_ rfl
  exact (RetM.gate_logistic s).trans (RetM.gate_tanh s).symm

theorem value6 : Cert.algebraic_Kernel6Ideal_Reference6Ideal (hKernel6Ideal := Cert.Kernel6Ideal.Gen.facts) (hReference6Ideal := Cert.Reference6Ideal.Gen.facts) := by
  intro m g m' g' _ hm
  refine ⟨fun c => Cert.Kernel6Ideal.SIn.GW m c, (θ_run _ _ _).mono (fun r h c => ⟨(h c).1.trans (Cert.Kernel6Ideal.SIn.arr_eq m c), (h c).2⟩) (Cert.Kernel6Ideal.Value.run_blocks m g), ?_⟩
  refine (θ_run _ _ _).mono (fun r h c => ⟨(h c).1.trans ?_, (h c).2⟩) (Cert.Reference6Ideal.Value.run m' g')
  obtain ⟨h0, h1⟩ := hm c
  funext i
  idx_vars i
  refine (Cert.Reference6Ideal.SIn.res_at _ _ i0 i1 i2).trans ?_
  rw [h0, h1]
  rfl

theorem value7 : Cert.algebraic_Kernel7Ideal_Reference7Ideal (hKernel7Ideal := Cert.Kernel7Ideal.Gen.facts) (hReference7Ideal := Cert.Reference7Ideal.Gen.facts) := by
  intro m g m' g' _ hm
  refine ⟨fun c => Cert.Kernel7Ideal.SOut.GW m c, (θ_run _ _ _).mono (fun r h c => ⟨(h c).1.trans (Cert.Kernel7Ideal.SOut.arr_eq m c), (h c).2⟩) (Cert.Kernel7Ideal.Value.run_blocks m g), ?_⟩
  refine (θ_run _ _ _).mono (fun r h c => ⟨(h c).1.trans ?_, (h c).2⟩) (Cert.Reference7Ideal.Value.run m' g')
  obtain ⟨h0, h1, h2, h3, h4, h5⟩ := hm c
  funext i
  idx_vars i
  refine (Cert.Reference7Ideal.SOut.res_at m' c i0 i1).trans ?_
  rw [h0, h1, h2, h3, h4, h5]
  rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_proj_finite.Gen.facts, Cert.Pre_ssd_finite.Gen.facts,
    fun m ρ _ => Cert.Kernel.Gen.frame m ρ, fun m ρ _ => Cert.KernelIdeal.Gen.frame m ρ, fun m ρ _ => Cert.KernelIdeal.Gen.frame m ρ,
    fun m g _ => frame_ref m g, fun m g _ => frame_ref m g,
    fun m ρ _ => Cert.Kernel2.Gen.frame m ρ, fun m ρ _ => Cert.Kernel2Ideal.Gen.frame m ρ, fun m g _ => frame_ref2 m g,
    fun m ρ _ => Cert.Kernel3.Gen.frame m ρ, fun m ρ _ => Cert.Kernel3Ideal.Gen.frame m ρ, fun m g _ => frame_ref3 m g,
    fun m ρ _ => Cert.Kernel4.Gen.frame m ρ, fun m ρ _ => Cert.Kernel4Ideal.Gen.frame m ρ, fun m g _ => frame_ref4 m g,
    fun m ρ _ => Cert.Kernel5.Gen.frame m ρ, fun m ρ _ => Cert.Kernel5Ideal.Gen.frame m ρ, fun m ρ _ => Cert.Kernel5Ideal.Gen.frame m ρ,
    fun m g _ => frame_ref5 m g, fun m g _ => frame_ref5 m g,
    fun m ρ _ => Cert.Kernel6.Gen.frame m ρ, fun m ρ _ => Cert.Kernel6Ideal.Gen.frame m ρ, fun m g _ => frame_ref6 m g,
    fun m ρ _ => Cert.Kernel7.Gen.frame m ρ, fun m ρ _ => Cert.Kernel7Ideal.Gen.frame m ρ, fun m g _ => frame_ref7 m g,
    trivial, value, trivial, value2, trivial, value3, trivial, value4, trivial, value5, trivial, value6, trivial, value7⟩

end Cert.Proof

end
